-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v306) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4096x1x28x28 : Shape := ⟨4, ![4096, 1, 28, 28]⟩
abbrev S16x1x5x5 : Shape := ⟨4, ![16, 1, 5, 5]⟩
abbrev S16 : Shape := ⟨1, ![16]⟩
abbrev S32x16x3x3 : Shape := ⟨4, ![32, 16, 3, 3]⟩
abbrev S32 : Shape := ⟨1, ![32]⟩
abbrev S3200x1 : Shape := ⟨2, ![3200, 1]⟩
abbrev S1 : Shape := ⟨1, ![1]⟩
abbrev S3200x256 : Shape := ⟨2, ![3200, 256]⟩
abbrev S256 : Shape := ⟨1, ![256]⟩
abbrev S256x128 : Shape := ⟨2, ![256, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S4096x1x28x28 : S_.BroadcastsInDim S4096x1x28x28 (![] : Fin 0 → Fin S4096x1x28x28.rank)
  reducesTo_S4096x1x28x28_S_d0_1_2_3 : S4096x1x28x28.ReducesTo [0, 1, 2, 3] S_
  h_S_ : 0 < S_.numel
  bcast_S_S16x1x5x5 : S_.BroadcastsInDim S16x1x5x5 (![] : Fin 0 → Fin S16x1x5x5.rank)
  reducesTo_S16x1x5x5_S_d0_1_2_3 : S16x1x5x5.ReducesTo [0, 1, 2, 3] S_
  bcast_S_S16 : S_.BroadcastsInDim S16 (![] : Fin 0 → Fin S16.rank)
  reducesTo_S16_S_d0 : S16.ReducesTo [0] S_
  bcast_S_S32x16x3x3 : S_.BroadcastsInDim S32x16x3x3 (![] : Fin 0 → Fin S32x16x3x3.rank)
  reducesTo_S32x16x3x3_S_d0_1_2_3 : S32x16x3x3.ReducesTo [0, 1, 2, 3] S_
  bcast_S_S32 : S_.BroadcastsInDim S32 (![] : Fin 0 → Fin S32.rank)
  reducesTo_S32_S_d0 : S32.ReducesTo [0] S_
  bcast_S_S3200x1 : S_.BroadcastsInDim S3200x1 (![] : Fin 0 → Fin S3200x1.rank)
  reducesTo_S3200x1_S_d0_1 : S3200x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S32 .f32) (main_arg5 : FVec F S3200x1 .f32) (main_arg6 : FVec F S1 .f32) (main_v13 : IVec S_ 1) (main_v16 : IVec S32x16x3x3 1) : IVec S_ 1 :=
  let main_c_5 : IVec S_ 1 := constantI S_ 1 1#1
  let main_v17 : IVec S_ 1 := (fun x v => Host.reduce IntOp.andi x v reducesTo_S32x16x3x3_S_d0_1_2_3 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S3200x1 .f32 := Host.absf main_arg5
  let main_cst_8 : FVec F S_ .f32 := constant S_ .f32 0x7F800000#32
  let main_v25 : FVec F S3200x1 .f32 := broadcastInDim S3200x1 ![] bcast_S_S3200x1 main_cst_8
  let main_v26 : IVec S3200x1 1 := cmpf .olt main_v24 main_v25
  let main_c_9 : IVec S_ 1 := constantI S_ 1 1#1
  let main_v27 : IVec S_ 1 := (fun x v => Host.reduce IntOp.andi x v reducesTo_S3200x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S4096x1x28x28 .f32) (main_arg1 : FVec F S16x1x5x5 .f32) (main_arg2 : FVec F S16 .f32) (main_arg3 : FVec F S32x16x3x3 .f32) (main_arg4 : FVec F S32 .f32) (main_arg5 : FVec F S3200x1 .f32) (main_arg6 : FVec F S1 .f32) (main_arg7 : FVec F S3200x256 .f32) (main_arg8 : FVec F S256 .f32) (main_arg9 : FVec F S256x128 .f32) (main_arg10 : FVec F S128 .f32) (main_arg11 : FVec F S128x10 .f32) (main_arg12 : FVec F S10 .f32) : IVec S_ 1 :=
  let main_v0 : FVec F S4096x1x28x28 .f32 := Host.absf main_arg0
  let main_cst : FVec F S_ .f32 := constant S_ .f32 0x7F800000#32
  let main_v1 : FVec F S4096x1x28x28 .f32 := broadcastInDim S4096x1x28x28 ![] bcast_S_S4096x1x28x28 main_cst
  let main_v2 : IVec S4096x1x28x28 1 := cmpf .olt main_v0 main_v1
  let main_c : IVec S_ 1 := constantI S_ 1 1#1
  let main_v3 : IVec S_ 1 := (fun x v => Host.reduce IntOp.andi x v reducesTo_S4096x1x28x28_S_d0_1_2_3 h_S_) main_v2 main_c
  let main_v4 : FVec F S16x1x5x5 .f32 := Host.absf main_arg1
  let main_cst_0 : FVec F S_ .f32 := constant S_ .f32 0x7F800000#32
  let main_v5 : FVec F S16x1x5x5 .f32 := broadcastInDim S16x1x5x5 ![] bcast_S_S16x1x5x5 main_cst_0
  let main_v6 : IVec S16x1x5x5 1 := cmpf .olt main_v4 main_v5
  let main_c_1 : IVec S_ 1 := constantI S_ 1 1#1
  let main_v7 : IVec S_ 1 := (fun x v => Host.reduce IntOp.andi x v reducesTo_S16x1x5x5_S_d0_1_2_3 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S32x16x3x3 .f32 := Host.absf main_arg3
  let main_cst_4 : FVec F S_ .f32 := constant S_ .f32 0x7F800000#32
  let main_v15 : FVec F S32x16x3x3 .f32 := broadcastInDim S32x16x3x3 ![] bcast_S_S32x16x3x3 main_cst_4
  let main_v16 : IVec S32x16x3x3 1 := cmpf .olt main_v14 main_v15
  fn_part1 (F := F) main_arg4 main_arg5 main_arg6 main_v13 main_v16
-- ==== Kernel.lean ====
abbrev S4096x1x28x28 : Shape := ⟨4, ![4096, 1, 28, 28]⟩
abbrev S16x1x5x5 : Shape := ⟨4, ![16, 1, 5, 5]⟩
abbrev S16 : Shape := ⟨1, ![16]⟩
abbrev S32x16x3x3 : Shape := ⟨4, ![32, 16, 3, 3]⟩
abbrev S32 : Shape := ⟨1, ![32]⟩
abbrev S3200x1 : Shape := ⟨2, ![3200, 1]⟩
abbrev S1 : Shape := ⟨1, ![1]⟩
abbrev S3200x256 : Shape := ⟨2, ![3200, 256]⟩
abbrev S256 : Shape := ⟨1, ![256]⟩
abbrev S256x128 : Shape := ⟨2, ![256, 128]⟩
abbrev S128 : Shape := ⟨1, ![128]⟩
abbrev S128x10 : Shape := ⟨2, ![128, 10]⟩
abbrev S10 : Shape := ⟨1, ![10]⟩
abbrev S5 : Shape := ⟨1, ![5]⟩
abbrev S28 : Shape := ⟨1, ![28]⟩
abbrev S28x1x1x1 : Shape := ⟨4, ![28, 1, 1, 1]⟩
abbrev S2 : Shape := ⟨1, ![2]⟩
abbrev S1x2x1x1 : Shape := ⟨4, ![1, 2, 1, 1]⟩
abbrev S12 : Shape := ⟨1, ![12]⟩
abbrev S1x1x12x1 : Shape := ⟨4, ![1, 1, 12, 1]⟩
abbrev S1x1x1x5 : Shape := ⟨4, ![1, 1, 1, 5]⟩
abbrev S_ : Shape := ⟨0, ![]⟩
abbrev S28x1x12x1 : Shape := ⟨4, ![28, 1, 12, 1]⟩
abbrev S28x2x12x1 : Shape := ⟨4, ![28, 2, 12, 1]⟩
abbrev S28x2x12x5 : Shape := ⟨4, ![28, 2, 12, 5]⟩
abbrev S16x5x5 : Shape := ⟨3, ![16, 5, 5]⟩
abbrev S28x2x12x16x5 : Shape := ⟨5, ![28, 2, 12, 16, 5]⟩
abbrev S5x28x2x16x12 : Shape := ⟨5, ![5, 28, 2, 16, 12]⟩
abbrev S140x384 : Shape := ⟨2, ![140, 384]⟩
abbrev S3 : Shape := ⟨1, ![3]⟩
abbrev S12x1x1 : Shape := ⟨3, ![12, 1, 1]⟩
abbrev S1x10x1 : Shape := ⟨3, ![1, 10, 1]⟩
abbrev S1x1x3 : Shape := ⟨3, ![1, 1, 3]⟩
abbrev S12x10x1 : Shape := ⟨3, ![12, 10, 1]⟩
abbrev S12x10x3 : Shape := ⟨3, ![12, 10, 3]⟩
abbrev S32x16x1x3 : Shape := ⟨4, ![32, 16, 1, 3]⟩
abbrev S32x16x3 : Shape := ⟨3, ![32, 16, 3]⟩
abbrev S12x10x32x16 : Shape := ⟨4, ![12, 10, 32, 16]⟩
abbrev S16x12x32x10 : Shape := ⟨4, ![16, 12, 32, 10]⟩
abbrev S192x320 : Shape := ⟨2, ![192, 320]⟩
abbrev S192x960 : Shape := ⟨2, ![192, 960]⟩
abbrev S16x12 : Shape := ⟨2, ![16, 12]⟩
abbrev S192 : Shape := ⟨1, ![192]⟩
abbrev S32x10 : Shape := ⟨2, ![32, 10]⟩
abbrev S320 : Shape := ⟨1, ![320]⟩
abbrev S32x10x10x256 : Shape := ⟨4, ![32, 10, 10, 256]⟩
abbrev S10x32x10x256 : Shape := ⟨4, ![10, 32, 10, 256]⟩
abbrev S10x320x256 : Shape := ⟨3, ![10, 320, 256]⟩
abbrev S4096x10 : Shape := ⟨2, ![4096, 10]⟩
abbrev S256x1x28x28 : Shape := ⟨4, ![256, 1, 28, 28]⟩
abbrev S256x10 : Shape := ⟨2, ![256, 10]⟩
abbrev S256x28x28 : Shape := ⟨3, ![256, 28, 28]⟩
abbrev S256x24x28 : Shape := ⟨3, ![256, 24, 28]⟩
abbrev S256x24x140 : Shape := ⟨3, ![256, 24, 140]⟩
abbrev S6144x140 : Shape := ⟨2, ![6144, 140]⟩
abbrev S6144x384 : Shape := ⟨2, ![6144, 384]⟩
abbrev S6144x192 : Shape := ⟨2, ![6144, 192]⟩
abbrev S256x24x192 : Shape := ⟨3, ![256, 24, 192]⟩
abbrev S256x23x192 : Shape := ⟨3, ![256, 23, 192]⟩
abbrev S256x1x192 : Shape := ⟨3, ![256, 1, 192]⟩
abbrev S256x4x192 : Shape := ⟨3, ![256, 4, 192]⟩
abbrev S256x16x192 : Shape := ⟨3, ![256, 16, 192]⟩
abbrev S1x1x192 : Shape := ⟨3, ![1, 1, 192]⟩
abbrev S4096x192 : Shape := ⟨2, ![4096, 192]⟩
abbrev S4096x960 : Shape := ⟨2, ![4096, 960]⟩
abbrev S256x16x960 : Shape := ⟨3, ![256, 16, 960]⟩
abbrev S256x10x320 : Shape := ⟨3, ![256, 10, 320]⟩
abbrev S1x1x320 : Shape := ⟨3, ![1, 1, 320]⟩
abbrev S256x256 : Shape := ⟨2, ![256, 256]⟩
abbrev S256x1x320 : Shape := ⟨3, ![256, 1, 320]⟩
abbrev S256x320 : Shape := ⟨2, ![256, 320]⟩
abbrev S1x320x256 : Shape := ⟨3, ![1, 320, 256]⟩
abbrev S320x256 : Shape := ⟨2, ![320, 256]⟩
abbrev S1x256 : Shape := ⟨2, ![1, 256]⟩
abbrev S1x128 : Shape := ⟨2, ![1, 128]⟩
abbrev S1x10 : Shape := ⟨2, ![1, 10]⟩
abbrev S256x1 : Shape := ⟨2, ![256, 1]⟩

abbrev nBuf : Space → Nat
  | .hbm => 75
  | .vmem => 14
  | .smem => 0
  | _ => 0

abbrev bufTy : (tb : Table) → Fin (tcTables nBuf tb) → BufTy
  | .hbm, ⟨0, _⟩ => ⟨S4096x1x28x28, .f32⟩
  | .hbm, ⟨1, _⟩ => ⟨S16x1x5x5, .f32⟩
  | .hbm, ⟨2, _⟩ => ⟨S16, .f32⟩
  | .hbm, ⟨3, _⟩ => ⟨S32x16x3x3, .f32⟩
  | .hbm, ⟨4, _⟩ => ⟨S32, .f32⟩
  | .hbm, ⟨5, _⟩ => ⟨S3200x1, .f32⟩
  | .hbm, ⟨6, _⟩ => ⟨S1, .f32⟩
  | .hbm, ⟨7, _⟩ => ⟨S3200x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128x10, .f32⟩
  | .hbm, ⟨12, _⟩ => ⟨S10, .f32⟩
  | .hbm, ⟨13, _⟩ => ⟨S5, .i32⟩
  | .hbm, ⟨14, _⟩ => ⟨S28, .i32⟩
  | .hbm, ⟨15, _⟩ => ⟨S28x1x1x1, .i32⟩
  | .hbm, ⟨16, _⟩ => ⟨S2, .i32⟩
  | .hbm, ⟨17, _⟩ => ⟨S1x2x1x1, .i32⟩
  | .hbm, ⟨18, _⟩ => ⟨S12, .i32⟩
  | .hbm, ⟨19, _⟩ => ⟨S1x1x12x1, .i32⟩
  | .hbm, ⟨20, _⟩ => ⟨S1x1x1x5, .i32⟩
  | .hbm, ⟨21, _⟩ => ⟨S_, .i32⟩
  | .hbm, ⟨22, _⟩ => ⟨S1x1x12x1, .i32⟩
  | .hbm, ⟨23, _⟩ => ⟨S1x1x12x1, .i32⟩
  | .hbm, ⟨24, _⟩ => ⟨S28x1x12x1, .i32⟩
  | .hbm, ⟨25, _⟩ => ⟨S28x1x12x1, .i32⟩
  | .hbm, ⟨26, _⟩ => ⟨S28x1x12x1, .i32⟩
  | .hbm, ⟨27, _⟩ => ⟨S28x2x12x1, .i32⟩
  | .hbm, ⟨28, _⟩ => ⟨S28x2x12x1, .i32⟩
  | .hbm, ⟨29, _⟩ => ⟨S28x2x12x1, .i32⟩
  | .hbm, ⟨30, _⟩ => ⟨S28x2x12x5, .i32⟩
  | .hbm, ⟨31, _⟩ => ⟨S28x2x12x5, .i32⟩
  | .hbm, ⟨32, _⟩ => ⟨S28x2x12x5, .i1⟩
  | .hbm, ⟨33, _⟩ => ⟨S28x2x12x5, .f32⟩
  | .hbm, ⟨34, _⟩ => ⟨S16x5x5, .f32⟩
  | .hbm, ⟨35, _⟩ => ⟨S28x2x12x16x5, .f32⟩
  | .hbm, ⟨36, _⟩ => ⟨S5x28x2x16x12, .f32⟩
  | .hbm, ⟨37, _⟩ => ⟨S140x384, .f32⟩
  | .hbm, ⟨38, _⟩ => ⟨S3, .i32⟩
  | .hbm, ⟨39, _⟩ => ⟨S12, .i32⟩
  | .hbm, ⟨40, _⟩ => ⟨S12x1x1, .i32⟩
  | .hbm, ⟨41, _⟩ => ⟨S10, .i32⟩
  | .hbm, ⟨42, _⟩ => ⟨S1x10x1, .i32⟩
  | .hbm, ⟨43, _⟩ => ⟨S1x1x3, .i32⟩
  | .hbm, ⟨44, _⟩ => ⟨S12x10x1, .i32⟩
  | .hbm, ⟨45, _⟩ => ⟨S12x10x1, .i32⟩
  | .hbm, ⟨46, _⟩ => ⟨S12x10x1, .i32⟩
  | .hbm, ⟨47, _⟩ => ⟨S12x10x3, .i32⟩
  | .hbm, ⟨48, _⟩ => ⟨S12x10x3, .i32⟩
  | .hbm, ⟨49, _⟩ => ⟨S12x10x3, .i1⟩
  | .hbm, ⟨50, _⟩ => ⟨S12x10x3, .f32⟩
  | .hbm, ⟨51, _⟩ => ⟨S32x16x1x3, .f32⟩
  | .hbm, ⟨52, _⟩ => ⟨S32x16x3, .f32⟩
  | .hbm, ⟨53, _⟩ => ⟨S12x10x32x16, .f32⟩
  | .hbm, ⟨54, _⟩ => ⟨S16x12x32x10, .f32⟩
  | .hbm, ⟨55, _⟩ => ⟨S192x320, .f32⟩
  | .hbm, ⟨56, _⟩ => ⟨S32x16x1x3, .f32⟩
  | .hbm, ⟨57, _⟩ => ⟨S32x16x3, .f32⟩
  | .hbm, ⟨58, _⟩ => ⟨S12x10x32x16, .f32⟩
  | .hbm, ⟨59, _⟩ => ⟨S16x12x32x10, .f32⟩
  | .hbm, ⟨60, _⟩ => ⟨S192x320, .f32⟩
  | .hbm, ⟨61, _⟩ => ⟨S32x16x1x3, .f32⟩
  | .hbm, ⟨62, _⟩ => ⟨S32x16x3, .f32⟩
  | .hbm, ⟨63, _⟩ => ⟨S12x10x32x16, .f32⟩
  | .hbm, ⟨64, _⟩ => ⟨S16x12x32x10, .f32⟩
  | .hbm, ⟨65, _⟩ => ⟨S192x320, .f32⟩
  | .hbm, ⟨66, _⟩ => ⟨S192x960, .f32⟩
  | .hbm, ⟨67, _⟩ => ⟨S16x12, .f32⟩
  | .hbm, ⟨68, _⟩ => ⟨S192, .f32⟩
  | .hbm, ⟨69, _⟩ => ⟨S32x10, .f32⟩
  | .hbm, ⟨70, _⟩ => ⟨S320, .f32⟩
  | .hbm, ⟨71, _⟩ => ⟨S32x10x10x256, .f32⟩
  | .hbm, ⟨72, _⟩ => ⟨S10x32x10x256, .f32⟩
  | .hbm, ⟨73, _⟩ => ⟨S10x320x256, .f32⟩
  | .hbm, ⟨74, _⟩ => ⟨S4096x10, .f32⟩
  | .local _ .vmem, ⟨0, _⟩ => ⟨S256x1x28x28, .f32⟩
  | .local _ .vmem, ⟨1, _⟩ => ⟨S256x1x28x28, .f32⟩
  | .local _ .vmem, ⟨2, _⟩ => ⟨S140x384, .f32⟩
  | .local _ .vmem, ⟨3, _⟩ => ⟨S192, .f32⟩
  | .local _ .vmem, ⟨4, _⟩ => ⟨S192x960, .f32⟩
  | .local _ .vmem, ⟨5, _⟩ => ⟨S320, .f32⟩
  | .local _ .vmem, ⟨6, _⟩ => ⟨S10x320x256, .f32⟩
  | .local _ .vmem, ⟨7, _⟩ => ⟨S256, .f32⟩
  | .local _ .vmem, ⟨8, _⟩ => ⟨S256x128, .f32⟩
  | .local _ .vmem, ⟨9, _⟩ => ⟨S128, .f32⟩
  | .local _ .vmem, ⟨10, _⟩ => ⟨S128x10, .f32⟩
  | .local _ .vmem, ⟨11, _⟩ => ⟨S10, .f32⟩
  | .local _ .vmem, ⟨12, _⟩ => ⟨S256x10, .f32⟩
  | .local _ .vmem, ⟨13, _⟩ => ⟨S256x10, .f32⟩
  | _, _ => ⟨S4096x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1x28x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S140x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x960 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x320x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4096x1x28x28 : Shape := ⟨4, ![4096, 1, 28, 28]⟩
abbrev S16x1x5x5 : Shape := ⟨4, ![16, 1, 5, 5]⟩
abbrev S16 : Shape := ⟨1, ![16]⟩
abbrev S32x16x3x3 : Shape := ⟨4, ![32, 16, 3, 3]⟩
abbrev S32 : Shape := ⟨1, ![32]⟩
abbrev S3200x1 : Shape := ⟨2, ![3200, 1]⟩
abbrev S1 : Shape := ⟨1, ![1]⟩
abbrev S3200x256 : Shape := ⟨2, ![3200, 256]⟩
abbrev S256 : Shape := ⟨1, ![256]⟩
abbrev S256x128 : Shape := ⟨2, ![256, 128]⟩
abbrev S128 : Shape := ⟨1, ![128]⟩
abbrev S128x10 : Shape := ⟨2, ![128, 10]⟩
abbrev S10 : Shape := ⟨1, ![10]⟩
abbrev S4096x1x24x24 : Shape := ⟨4, ![4096, 1, 24, 24]⟩
abbrev S16x1x1x1 : Shape := ⟨4, ![16, 1, 1, 1]⟩
abbrev S1x16x1x1 : Shape := ⟨4, ![1, 16, 1, 1]⟩
abbrev S4096x16x24x24 : Shape := ⟨4, ![4096, 16, 24, 24]⟩
abbrev S_ : Shape := ⟨0, ![]⟩
abbrev S4096x16x12x12 : Shape := ⟨4, ![4096, 16, 12, 12]⟩
abbrev S4096x16x10x10 : Shape := ⟨4, ![4096, 16, 10, 10]⟩
abbrev S32x16x1x1 : Shape := ⟨4, ![32, 16, 1, 1]⟩
abbrev S32x16 : Shape := ⟨2, ![32, 16]⟩
abbrev S32x4096x10x10 : Shape := ⟨4, ![32, 4096, 10, 10]⟩
abbrev S4096x32x10x10 : Shape := ⟨4, ![4096, 32, 10, 10]⟩
abbrev S1x32x1x1 : Shape := ⟨4, ![1, 32, 1, 1]⟩
abbrev S4096x3200 : Shape := ⟨2, ![4096, 3200]⟩
abbrev S4096x1 : Shape := ⟨2, ![4096, 1]⟩
abbrev S1x1 : Shape := ⟨2, ![1, 1]⟩
abbrev S4096 : Shape := ⟨1, ![4096]⟩
abbrev S4096x256 : Shape := ⟨2, ![4096, 256]⟩
abbrev S1x256 : Shape := ⟨2, ![1, 256]⟩
abbrev S4096x128 : Shape := ⟨2, ![4096, 128]⟩
abbrev S1x128 : Shape := ⟨2, ![1, 128]⟩
abbrev S4096x10 : Shape := ⟨2, ![4096, 10]⟩
abbrev S1x10 : Shape := ⟨2, ![1, 10]⟩

abbrev nBuf : Space → Nat
  | .hbm => 339
  | .vmem => 0
  | .smem => 0
  | _ => 0

abbrev hbmTy0_0 (i : Nat) : BufTy := match i % 128 with
  | 0 => ⟨S4096x1x28x28, .f32⟩
  | 1 => ⟨S16x1x5x5, .f32⟩
  | 2 => ⟨S16, .f32⟩
  | 3 => ⟨S32x16x3x3, .f32⟩
  | 4 => ⟨S32, .f32⟩
  | 5 => ⟨S3200x1, .f32⟩
  | 6 => ⟨S1, .f32⟩
  | 7 => ⟨S3200x256, .f32⟩
  | 8 => ⟨S256, .f32⟩
  | 9 => ⟨S256x128, .f32⟩
  | 10 => ⟨S128, .f32⟩
  | 11 => ⟨S128x10, .f32⟩
  | 12 => ⟨S10, .f32⟩
  | 13 => ⟨S4096x1x24x24, .f32⟩
  | 14 => ⟨S16x1x1x1, .f32⟩
  | 15 => ⟨S16, .f32⟩
  | 16 => ⟨S1x16x1x1, .f32⟩
  | 17 => ⟨S4096x16x24x24, .f32⟩
  | 18 => ⟨S4096x16x24x24, .f32⟩
  | 19 => ⟨S4096x16x24x24, .f32⟩
  | 20 => ⟨S_, .f32⟩
  | 21 => ⟨S4096x16x24x24, .f32⟩
  | 22 => ⟨S4096x16x24x24, .f32⟩
  | 23 => ⟨S4096x1x24x24, .f32⟩
  | 24 => ⟨S16x1x1x1, .f32⟩
  | 25 => ⟨S16, .f32⟩
  | 26 => ⟨S1x16x1x1, .f32⟩
  | 27 => ⟨S4096x16x24x24, .f32⟩
  | 28 => ⟨S4096x16x24x24, .f32⟩
  | 29 => ⟨S4096x16x24x24, .f32⟩
  | 30 => ⟨S4096x16x24x24, .f32⟩
  | 31 => ⟨S4096x1x24x24, .f32⟩
  | 32 => ⟨S16x1x1x1, .f32⟩
  | 33 => ⟨S16, .f32⟩
  | 34 => ⟨S1x16x1x1, .f32⟩
  | 35 => ⟨S4096x16x24x24, .f32⟩
  | 36 => ⟨S4096x16x24x24, .f32⟩
  | 37 => ⟨S4096x16x24x24, .f32⟩
  | 38 => ⟨S4096x16x24x24, .f32⟩
  | 39 => ⟨S4096x1x24x24, .f32⟩
  | 40 => ⟨S16x1x1x1, .f32⟩
  | 41 => ⟨S16, .f32⟩
  | 42 => ⟨S1x16x1x1, .f32⟩
  | 43 => ⟨S4096x16x24x24, .f32⟩
  | 44 => ⟨S4096x16x24x24, .f32⟩
  | 45 => ⟨S4096x16x24x24, .f32⟩
  | 46 => ⟨S4096x16x24x24, .f32⟩
  | 47 => ⟨S4096x1x24x24, .f32⟩
  | 48 => ⟨S16x1x1x1, .f32⟩
  | 49 => ⟨S16, .f32⟩
  | 50 => ⟨S1x16x1x1, .f32⟩
  | 51 => ⟨S4096x16x24x24, .f32⟩
  | 52 => ⟨S4096x16x24x24, .f32⟩
  | 53 => ⟨S4096x16x24x24, .f32⟩
  | 54 => ⟨S4096x16x24x24, .f32⟩
  | 55 => ⟨S4096x1x24x24, .f32⟩
  | 56 => ⟨S16x1x1x1, .f32⟩
  | 57 => ⟨S16, .f32⟩
  | 58 => ⟨S1x16x1x1, .f32⟩
  | 59 => ⟨S4096x16x24x24, .f32⟩
  | 60 => ⟨S4096x16x24x24, .f32⟩
  | 61 => ⟨S4096x16x24x24, .f32⟩
  | 62 => ⟨S4096x16x24x24, .f32⟩
  | 63 => ⟨S4096x1x24x24, .f32⟩
  | 64 => ⟨S16x1x1x1, .f32⟩
  | 65 => ⟨S16, .f32⟩
  | 66 => ⟨S1x16x1x1, .f32⟩
  | 67 => ⟨S4096x16x24x24, .f32⟩
  | 68 => ⟨S4096x16x24x24, .f32⟩
  | 69 => ⟨S4096x16x24x24, .f32⟩
  | 70 => ⟨S4096x16x24x24, .f32⟩
  | 71 => ⟨S4096x1x24x24, .f32⟩
  | 72 => ⟨S16x1x1x1, .f32⟩
  | 73 => ⟨S16, .f32⟩
  | 74 => ⟨S1x16x1x1, .f32⟩
  | 75 => ⟨S4096x16x24x24, .f32⟩
  | 76 => ⟨S4096x16x24x24, .f32⟩
  | 77 => ⟨S4096x16x24x24, .f32⟩
  | 78 => ⟨S4096x16x24x24, .f32⟩
  | 79 => ⟨S4096x1x24x24, .f32⟩
  | 80 => ⟨S16x1x1x1, .f32⟩
  | 81 => ⟨S16, .f32⟩
  | 82 => ⟨S1x16x1x1, .f32⟩
  | 83 => ⟨S4096x16x24x24, .f32⟩
  | 84 => ⟨S4096x16x24x24, .f32⟩
  | 85 => ⟨S4096x16x24x24, .f32⟩
  | 86 => ⟨S4096x16x24x24, .f32⟩
  | 87 => ⟨S4096x1x24x24, .f32⟩
  | 88 => ⟨S16x1x1x1, .f32⟩
  | 89 => ⟨S16, .f32⟩
  | 90 => ⟨S1x16x1x1, .f32⟩
  | 91 => ⟨S4096x16x24x24, .f32⟩
  | 92 => ⟨S4096x16x24x24, .f32⟩
  | 93 => ⟨S4096x16x24x24, .f32⟩
  | 94 => ⟨S4096x16x24x24, .f32⟩
  | 95 => ⟨S4096x1x24x24, .f32⟩
  | 96 => ⟨S16x1x1x1, .f32⟩
  | 97 => ⟨S16, .f32⟩
  | 98 => ⟨S1x16x1x1, .f32⟩
  | 99 => ⟨S4096x16x24x24, .f32⟩
  | 100 => ⟨S4096x16x24x24, .f32⟩
  | 101 => ⟨S4096x16x24x24, .f32⟩
  | 102 => ⟨S4096x16x24x24, .f32⟩
  | 103 => ⟨S4096x1x24x24, .f32⟩
  | 104 => ⟨S16x1x1x1, .f32⟩
  | 105 => ⟨S16, .f32⟩
  | 106 => ⟨S1x16x1x1, .f32⟩
  | 107 => ⟨S4096x16x24x24, .f32⟩
  | 108 => ⟨S4096x16x24x24, .f32⟩
  | 109 => ⟨S4096x16x24x24, .f32⟩
  | 110 => ⟨S4096x16x24x24, .f32⟩
  | 111 => ⟨S4096x1x24x24, .f32⟩
  | 112 => ⟨S16x1x1x1, .f32⟩
  | 113 => ⟨S16, .f32⟩
  | 114 => ⟨S1x16x1x1, .f32⟩
  | 115 => ⟨S4096x16x24x24, .f32⟩
  | 116 => ⟨S4096x16x24x24, .f32⟩
  | 117 => ⟨S4096x16x24x24, .f32⟩
  | 118 => ⟨S4096x16x24x24, .f32⟩
  | 119 => ⟨S4096x1x24x24, .f32⟩
  | 120 => ⟨S16x1x1x1, .f32⟩
  | 121 => ⟨S16, .f32⟩
  | 122 => ⟨S1x16x1x1, .f32⟩
  | 123 => ⟨S4096x16x24x24, .f32⟩
  | 124 => ⟨S4096x16x24x24, .f32⟩
  | 125 => ⟨S4096x16x24x24, .f32⟩
  | 126 => ⟨S4096x16x24x24, .f32⟩
  | 127 => ⟨S4096x1x24x24, .f32⟩
  | _ => ⟨S4096x1x28x28, .f32⟩

abbrev hbmTy0_1 (i : Nat) : BufTy := match i % 128 with
  | 0 => ⟨S16x1x1x1, .f32⟩
  | 1 => ⟨S16, .f32⟩
  | 2 => ⟨S1x16x1x1, .f32⟩
  | 3 => ⟨S4096x16x24x24, .f32⟩
  | 4 => ⟨S4096x16x24x24, .f32⟩
  | 5 => ⟨S4096x16x24x24, .f32⟩
  | 6 => ⟨S4096x16x24x24, .f32⟩
  | 7 => ⟨S4096x1x24x24, .f32⟩
  | 8 => ⟨S16x1x1x1, .f32⟩
  | 9 => ⟨S16, .f32⟩
  | 10 => ⟨S1x16x1x1, .f32⟩
  | 11 => ⟨S4096x16x24x24, .f32⟩
  | 12 => ⟨S4096x16x24x24, .f32⟩
  | 13 => ⟨S4096x16x24x24, .f32⟩
  | 14 => ⟨S4096x16x24x24, .f32⟩
  | 15 => ⟨S4096x1x24x24, .f32⟩
  | 16 => ⟨S16x1x1x1, .f32⟩
  | 17 => ⟨S16, .f32⟩
  | 18 => ⟨S1x16x1x1, .f32⟩
  | 19 => ⟨S4096x16x24x24, .f32⟩
  | 20 => ⟨S4096x16x24x24, .f32⟩
  | 21 => ⟨S4096x16x24x24, .f32⟩
  | 22 => ⟨S4096x16x24x24, .f32⟩
  | 23 => ⟨S4096x1x24x24, .f32⟩
  | 24 => ⟨S16x1x1x1, .f32⟩
  | 25 => ⟨S16, .f32⟩
  | 26 => ⟨S1x16x1x1, .f32⟩
  | 27 => ⟨S4096x16x24x24, .f32⟩
  | 28 => ⟨S4096x16x24x24, .f32⟩
  | 29 => ⟨S4096x16x24x24, .f32⟩
  | 30 => ⟨S4096x16x24x24, .f32⟩
  | 31 => ⟨S4096x1x24x24, .f32⟩
  | 32 => ⟨S16x1x1x1, .f32⟩
  | 33 => ⟨S16, .f32⟩
  | 34 => ⟨S1x16x1x1, .f32⟩
  | 35 => ⟨S4096x16x24x24, .f32⟩
  | 36 => ⟨S4096x16x24x24, .f32⟩
  | 37 => ⟨S4096x16x24x24, .f32⟩
  | 38 => ⟨S4096x16x24x24, .f32⟩
  | 39 => ⟨S4096x1x24x24, .f32⟩
  | 40 => ⟨S16x1x1x1, .f32⟩
  | 41 => ⟨S16, .f32⟩
  | 42 => ⟨S1x16x1x1, .f32⟩
  | 43 => ⟨S4096x16x24x24, .f32⟩
  | 44 => ⟨S4096x16x24x24, .f32⟩
  | 45 => ⟨S4096x16x24x24, .f32⟩
  | 46 => ⟨S4096x16x24x24, .f32⟩
  | 47 => ⟨S4096x1x24x24, .f32⟩
  | 48 => ⟨S16x1x1x1, .f32⟩
  | 49 => ⟨S16, .f32⟩
  | 50 => ⟨S1x16x1x1, .f32⟩
  | 51 => ⟨S4096x16x24x24, .f32⟩
  | 52 => ⟨S4096x16x24x24, .f32⟩
  | 53 => ⟨S4096x16x24x24, .f32⟩
  | 54 => ⟨S4096x16x24x24, .f32⟩
  | 55 => ⟨S4096x1x24x24, .f32⟩
  | 56 => ⟨S16x1x1x1, .f32⟩
  | 57 => ⟨S16, .f32⟩
  | 58 => ⟨S1x16x1x1, .f32⟩
  | 59 => ⟨S4096x16x24x24, .f32⟩
  | 60 => ⟨S4096x16x24x24, .f32⟩
  | 61 => ⟨S4096x16x24x24, .f32⟩
  | 62 => ⟨S4096x16x24x24, .f32⟩
  | 63 => ⟨S4096x1x24x24, .f32⟩
  | 64 => ⟨S16x1x1x1, .f32⟩
  | 65 => ⟨S16, .f32⟩
  | 66 => ⟨S1x16x1x1, .f32⟩
  | 67 => ⟨S4096x16x24x24, .f32⟩
  | 68 => ⟨S4096x16x24x24, .f32⟩
  | 69 => ⟨S4096x16x24x24, .f32⟩
  | 70 => ⟨S4096x16x24x24, .f32⟩
  | 71 => ⟨S4096x1x24x24, .f32⟩
  | 72 => ⟨S16x1x1x1, .f32⟩
  | 73 => ⟨S16, .f32⟩
  | 74 => ⟨S1x16x1x1, .f32⟩
  | 75 => ⟨S4096x16x24x24, .f32⟩
  | 76 => ⟨S4096x16x24x24, .f32⟩
  | 77 => ⟨S4096x16x24x24, .f32⟩
  | 78 => ⟨S4096x16x24x24, .f32⟩
  | 79 => ⟨S4096x1x24x24, .f32⟩
  | 80 => ⟨S16x1x1x1, .f32⟩
  | 81 => ⟨S16, .f32⟩
  | 82 => ⟨S1x16x1x1, .f32⟩
  | 83 => ⟨S4096x16x24x24, .f32⟩
  | 84 => ⟨S4096x16x24x24, .f32⟩
  | 85 => ⟨S4096x16x24x24, .f32⟩
  | 86 => ⟨S4096x16x24x24, .f32⟩
  | 87 => ⟨S1x16x1x1, .f32⟩
  | 88 => ⟨S4096x16x24x24, .f32⟩
  | 89 => ⟨S4096x16x24x24, .f32⟩
  | 90 => ⟨S_, .f32⟩
  | 91 => ⟨S4096x16x24x24, .f32⟩
  | 92 => ⟨S4096x16x24x24, .f32⟩
  | 93 => ⟨S_, .f32⟩
  | 94 => ⟨S_, .f32⟩
  | 95 => ⟨S4096x16x12x12, .f32⟩
  | 96 => ⟨S4096x16x10x10, .f32⟩
  | 97 => ⟨S32x16x1x1, .f32⟩
  | 98 => ⟨S32x16, .f32⟩
  | 99 => ⟨S32x4096x10x10, .f32⟩
  | 100 => ⟨S4096x32x10x10, .f32⟩
  | 101 => ⟨S_, .f32⟩
  | 102 => ⟨S4096x32x10x10, .f32⟩
  | 103 => ⟨S4096x32x10x10, .f32⟩
  | 104 => ⟨S4096x16x10x10, .f32⟩
  | 105 => ⟨S32x16x1x1, .f32⟩
  | 106 => ⟨S32x16, .f32⟩
  | 107 => ⟨S32x4096x10x10, .f32⟩
  | 108 => ⟨S4096x32x10x10, .f32⟩
  | 109 => ⟨S4096x32x10x10, .f32⟩
  | 110 => ⟨S4096x16x10x10, .f32⟩
  | 111 => ⟨S32x16x1x1, .f32⟩
  | 112 => ⟨S32x16, .f32⟩
  | 113 => ⟨S32x4096x10x10, .f32⟩
  | 114 => ⟨S4096x32x10x10, .f32⟩
  | 115 => ⟨S4096x32x10x10, .f32⟩
  | 116 => ⟨S4096x16x10x10, .f32⟩
  | 117 => ⟨S32x16x1x1, .f32⟩
  | 118 => ⟨S32x16, .f32⟩
  | 119 => ⟨S32x4096x10x10, .f32⟩
  | 120 => ⟨S4096x32x10x10, .f32⟩
  | 121 => ⟨S4096x32x10x10, .f32⟩
  | 122 => ⟨S4096x16x10x10, .f32⟩
  | 123 => ⟨S32x16x1x1, .f32⟩
  | 124 => ⟨S32x16, .f32⟩
  | 125 => ⟨S32x4096x10x10, .f32⟩
  | 126 => ⟨S4096x32x10x10, .f32⟩
  | 127 => ⟨S4096x32x10x10, .f32⟩
  | _ => ⟨S4096x1x28x28, .f32⟩

abbrev hbmTy0_2 (i : Nat) : BufTy := match i % 128 with
  | 0 => ⟨S4096x16x10x10, .f32⟩
  | 1 => ⟨S32x16x1x1, .f32⟩
  | 2 => ⟨S32x16, .f32⟩
  | 3 => ⟨S32x4096x10x10, .f32⟩
  | 4 => ⟨S4096x32x10x10, .f32⟩
  | 5 => ⟨S4096x32x10x10, .f32⟩
  | 6 => ⟨S4096x16x10x10, .f32⟩
  | 7 => ⟨S32x16x1x1, .f32⟩
  | 8 => ⟨S32x16, .f32⟩
  | 9 => ⟨S32x4096x10x10, .f32⟩
  | 10 => ⟨S4096x32x10x10, .f32⟩
  | 11 => ⟨S4096x32x10x10, .f32⟩
  | 12 => ⟨S4096x16x10x10, .f32⟩
  | 13 => ⟨S32x16x1x1, .f32⟩
  | 14 => ⟨S32x16, .f32⟩
  | 15 => ⟨S32x4096x10x10, .f32⟩
  | 16 => ⟨S4096x32x10x10, .f32⟩
  | 17 => ⟨S4096x32x10x10, .f32⟩
  | 18 => ⟨S4096x16x10x10, .f32⟩
  | 19 => ⟨S32x16x1x1, .f32⟩
  | 20 => ⟨S32x16, .f32⟩
  | 21 => ⟨S32x4096x10x10, .f32⟩
  | 22 => ⟨S4096x32x10x10, .f32⟩
  | 23 => ⟨S4096x32x10x10, .f32⟩
  | 24 => ⟨S1x32x1x1, .f32⟩
  | 25 => ⟨S4096x32x10x10, .f32⟩
  | 26 => ⟨S4096x32x10x10, .f32⟩
  | 27 => ⟨S_, .f32⟩
  | 28 => ⟨S4096x32x10x10, .f32⟩
  | 29 => ⟨S4096x32x10x10, .f32⟩
  | 30 => ⟨S4096x3200, .f32⟩
  | 31 => ⟨S4096x1, .f32⟩
  | 32 => ⟨S1x1, .f32⟩
  | 33 => ⟨S4096x1, .f32⟩
  | 34 => ⟨S4096x1, .f32⟩
  | 35 => ⟨S4096x1, .f32⟩
  | 36 => ⟨S4096x1, .i32⟩
  | 37 => ⟨S_, .f32⟩
  | 38 => ⟨S4096, .f32⟩
  | 39 => ⟨S_, .f32⟩
  | 40 => ⟨S4096, .f32⟩
  | 41 => ⟨S4096, .f32⟩
  | 42 => ⟨S4096x1, .f32⟩
  | 43 => ⟨S4096x1, .f32⟩
  | 44 => ⟨S4096x1, .f32⟩
  | 45 => ⟨S_, .f32⟩
  | 46 => ⟨S4096, .f32⟩
  | 47 => ⟨S4096x1, .f32⟩
  | 48 => ⟨S4096x1, .f32⟩
  | 49 => ⟨S4096x256, .f32⟩
  | 50 => ⟨S1x256, .f32⟩
  | 51 => ⟨S4096x256, .f32⟩
  | 52 => ⟨S4096x256, .f32⟩
  | 53 => ⟨S_, .f32⟩
  | 54 => ⟨S4096x256, .f32⟩
  | 55 => ⟨S4096x256, .f32⟩
  | 56 => ⟨S4096x128, .f32⟩
  | 57 => ⟨S1x128, .f32⟩
  | 58 => ⟨S4096x128, .f32⟩
  | 59 => ⟨S4096x128, .f32⟩
  | 60 => ⟨S_, .f32⟩
  | 61 => ⟨S4096x128, .f32⟩
  | 62 => ⟨S4096x128, .f32⟩
  | 63 => ⟨S4096x128, .f32⟩
  | 64 => ⟨S4096x128, .f32⟩
  | 65 => ⟨S4096x10, .f32⟩
  | 66 => ⟨S1x10, .f32⟩
  | 67 => ⟨S4096x10, .f32⟩
  | 68 => ⟨S4096x10, .f32⟩
  | 69 => ⟨S_, .f32⟩
  | 70 => ⟨S4096, .f32⟩
  | 71 => ⟨S_, .f32⟩
  | 72 => ⟨S4096, .f32⟩
  | 73 => ⟨S4096, .f32⟩
  | 74 => ⟨S4096x1, .f32⟩
  | 75 => ⟨S4096x10, .f32⟩
  | 76 => ⟨S4096x10, .f32⟩
  | 77 => ⟨S4096x10, .f32⟩
  | 78 => ⟨S_, .f32⟩
  | 79 => ⟨S4096, .f32⟩
  | 80 => ⟨S4096x1, .f32⟩
  | 81 => ⟨S4096x10, .f32⟩
  | 82 => ⟨S4096x10, .f32⟩
  | _ => ⟨S4096x1x28x28, .f32⟩

abbrev hbmTy (i : Nat) : BufTy := match i / 128 with
  | 0 => hbmTy0_0 i
  | 1 => hbmTy0_1 i
  | 2 => hbmTy0_2 i
  | _ => ⟨S4096x1x28x28, .f32⟩

abbrev bufTy : (tb : Table) → Fin (tcTables nBuf tb) → BufTy
  | .hbm, ⟨i, _⟩ => hbmTy i
  | _, _ => ⟨S4096x1x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_call0_cst : Ref sig .tc := ⟨.hbm, 218, rfl⟩
abbrev main_call0_v0 : Ref sig .tc := ⟨.hbm, 219, rfl⟩
abbrev main_v204 : Ref sig .tc := ⟨.hbm, 220, rfl⟩
abbrev main_cst_0 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_cst_1 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_v236 : Ref sig .tc := ⟨.hbm, 254, rfl⟩
abbrev main_v237 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩
abbrev main_v246 : Ref sig .tc := ⟨.hbm, 264, rfl⟩
abbrev main_v247 : Ref sig .tc := ⟨.hbm, 265, rfl⟩
abbrev main_v248 : Ref sig .tc := ⟨.hbm, 266, rfl⟩
abbrev main_v249 : Ref sig .tc := ⟨.hbm, 267, rfl⟩
abbrev main_v250 : Ref sig .tc := ⟨.hbm, 268, rfl⟩
abbrev main_v251 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_v255 : Ref sig .tc := ⟨.hbm, 273, rfl⟩
abbrev main_v256 : Ref sig .tc := ⟨.hbm, 274, rfl⟩
abbrev main_v257 : Ref sig .tc := ⟨.hbm, 275, rfl⟩
abbrev main_v258 : Ref sig .tc := ⟨.hbm, 276, rfl⟩
abbrev main_v259 : Ref sig .tc := ⟨.hbm, 277, rfl⟩
abbrev main_v260 : Ref sig .tc := ⟨.hbm, 278, rfl⟩
abbrev main_v261 : Ref sig .tc := ⟨.hbm, 279, rfl⟩
abbrev main_v262 : Ref sig .tc := ⟨.hbm, 280, rfl⟩
abbrev main_v263 : Ref sig .tc := ⟨.hbm, 281, rfl⟩
abbrev main_v264 : Ref sig .tc := ⟨.hbm, 282, rfl⟩
abbrev main_call1_cst : Ref sig .tc := ⟨.hbm, 283, rfl⟩
abbrev main_call1_v0 : Ref sig .tc := ⟨.hbm, 284, rfl⟩
abbrev main_v265 : Ref sig .tc := ⟨.hbm, 285, rfl⟩
abbrev main_v266 : Ref sig .tc := ⟨.hbm, 286, rfl⟩
abbrev main_v267 : Ref sig .tc := ⟨.hbm, 287, rfl⟩
abbrev main_v268 : Ref sig .tc := ⟨.hbm, 288, rfl⟩
abbrev main_v269 : Ref sig .tc := ⟨.hbm, 289, rfl⟩
abbrev main_v270 : Ref sig .tc := ⟨.hbm, 290, rfl⟩
abbrev main_values : Ref sig .tc := ⟨.hbm, 291, rfl⟩
abbrev main_indices : Ref sig .tc := ⟨.hbm, 292, rfl⟩
abbrev main_cst_2 : Ref sig .tc := ⟨.hbm, 293, rfl⟩
abbrev main_v271 : Ref sig .tc := ⟨.hbm, 294, rfl⟩
abbrev main_cst_3 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_cst_4 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_v281 : Ref sig .tc := ⟨.hbm, 306, rfl⟩
abbrev main_v282 : Ref sig .tc := ⟨.hbm, 307, rfl⟩
abbrev main_v283 : Ref sig .tc := ⟨.hbm, 308, rfl⟩
abbrev main_call2_cst : Ref sig .tc := ⟨.hbm, 309, rfl⟩
abbrev main_call2_v0 : Ref sig .tc := ⟨.hbm, 310, rfl⟩
abbrev main_v284 : Ref sig .tc := ⟨.hbm, 311, rfl⟩
abbrev main_v285 : Ref sig .tc := ⟨.hbm, 312, rfl⟩
abbrev main_v286 : Ref sig .tc := ⟨.hbm, 313, rfl⟩
abbrev main_v287 : Ref sig .tc := ⟨.hbm, 314, rfl⟩
abbrev main_v288 : Ref sig .tc := ⟨.hbm, 315, rfl⟩
abbrev main_call3_cst : Ref sig .tc := ⟨.hbm, 316, rfl⟩
abbrev main_call3_v0 : Ref sig .tc := ⟨.hbm, 317, rfl⟩
abbrev main_v289 : Ref sig .tc := ⟨.hbm, 318, rfl⟩
abbrev main_v290 : Ref sig .tc := ⟨.hbm, 319, rfl⟩
abbrev main_v291 : Ref sig .tc := ⟨.hbm, 320, rfl⟩
abbrev main_v292 : Ref sig .tc := ⟨.hbm, 321, rfl⟩
abbrev main_v293 : Ref sig .tc := ⟨.hbm, 322, rfl⟩
abbrev main_v294 : Ref sig .tc := ⟨.hbm, 323, rfl⟩
abbrev main_v295 : Ref sig .tc := ⟨.hbm, 324, rfl⟩
abbrev main_cst_5 : Ref sig .tc := ⟨.hbm, 325, rfl⟩
abbrev main_v296 : Ref sig .tc := ⟨.hbm, 326, rfl⟩
abbrev main_cst_6 : Ref sig .tc := ⟨.hbm, 327, rfl⟩
abbrev main_v297 : Ref sig .tc := ⟨.hbm, 328, rfl⟩
abbrev main_v298 : Ref sig .tc := ⟨.hbm, 329, rfl⟩
abbrev main_v299 : Ref sig .tc := ⟨.hbm, 330, rfl⟩
abbrev main_v300 : Ref sig .tc := ⟨.hbm, 331, rfl⟩
abbrev main_v301 : Ref sig .tc := ⟨.hbm, 332, rfl⟩
abbrev main_v302 : Ref sig .tc := ⟨.hbm, 333, rfl⟩
abbrev main_cst_7 : Ref sig .tc := ⟨.hbm, 334, rfl⟩
abbrev main_v303 : Ref sig .tc := ⟨.hbm, 335, rfl⟩
abbrev main_v304 : Ref sig .tc := ⟨.hbm, 336, rfl⟩
abbrev main_v305 : Ref sig .tc := ⟨.hbm, 337, rfl⟩
abbrev main_v306 : Ref sig .tc := ⟨.hbm, 338, rfl⟩

abbrev nD : Nat := 1
abbrev τ : Topo := Topo.v7x

variable {F : FTy → Type} [FloatOps F]
-- ==== Proof.Spec.lean ====
/- The mathematics of the classifier, one image at a time, over the extended reals: what both programs are shown to compute. -/
module

public import Idealize.ShloMosaic.Lib.Pointwise

@[expose] public section

noncomputable section

namespace Cert.Spec

open Idealize.ShloMosaic

/-- The valid 5x5 convolution of one image with filter `o`, before its bias. -/
def conv1 (img : Fin 28 → Fin 28 → EReal) (w1 : (⟨4, ![16, 1, 5, 5]⟩ : Shape).Idx → EReal) (o : Fin 16) (i j : Fin 24) : EReal :=
  ∑ di : Fin 5, ∑ dj : Fin 5, img ⟨i + di, by omega⟩ ⟨j + dj, by omega⟩ * w1 (ix4 o 0 di dj)

/-- The first layer: the greatest of the four convolution values of a 2x2 cell, the filter's bias added, negative values cut to zero. -/
def act1 (img : Fin 28 → Fin 28 → EReal) (w1 : (⟨4, ![16, 1, 5, 5]⟩ : Shape).Idx → EReal) (b1 : (⟨1, ![16]⟩ : Shape).Idx → EReal)
    (o : Fin 16) (i j : Fin 12) : EReal :=
  max (max (max (conv1 img w1 o ⟨2 * i, by omega⟩ ⟨2 * j, by omega⟩) (conv1 img w1 o ⟨2 * i, by omega⟩ ⟨2 * j + 1, by omega⟩))
    (max (conv1 img w1 o ⟨2 * i + 1, by omega⟩ ⟨2 * j, by omega⟩) (conv1 img w1 o ⟨2 * i + 1, by omega⟩ ⟨2 * j + 1, by omega⟩))
    + b1 (ix1 o)) 0

/-- The valid 3x3 convolution over the sixteen channels of `a`, before its bias. -/
def conv2 (a : Fin 16 → Fin 12 → Fin 12 → EReal) (w2 : (⟨4, ![32, 16, 3, 3]⟩ : Shape).Idx → EReal) (o : Fin 32) (i j : Fin 10) : EReal :=
  ∑ di : Fin 3, ∑ dj : Fin 3, ∑ ch : Fin 16, a ch ⟨i + di, by omega⟩ ⟨j + dj, by omega⟩ * w2 (ix4 o ch di dj)

/-- The second layer: the convolution's values, the bias added, negative values cut to zero. -/
def act2 (a : Fin 16 → Fin 12 → Fin 12 → EReal) (w2 : (⟨4, ![32, 16, 3, 3]⟩ : Shape).Idx → EReal) (b2 : (⟨1, ![32]⟩ : Shape).Idx → EReal)
    (o : Fin 32) (i j : Fin 10) : EReal :=
  max (conv2 a w2 o i j + b2 (ix1 o)) 0

/-- A dense layer with bias, before any cut: entry `n` of `v · w + b`. -/
def dense {K N : Nat} (v : Fin K → EReal) (w : (⟨2, ![K, N]⟩ : Shape).Idx → EReal) (b : (⟨1, ![N]⟩ : Shape).Idx → EReal) (n : Fin N) : EReal :=
  (∑ k : Fin K, v k * w (ix2 k n)) + b (ix1 n)

/-- The ten-way softmax of `l`, the greatest entry subtracted first. -/
def softmax (l : Fin 10 → EReal) (n : Fin 10) : EReal :=
  Ideal.div (Ideal.exp (l n - Finset.univ.fold max ⊥ l)) (∑ k : Fin 10, Ideal.exp (l k - Finset.univ.fold max ⊥ l))

/-- The 3200 features of an image: the second layer's values, channel by channel, row by row. -/
def feat (img : Fin 28 → Fin 28 → EReal) (w1 : (⟨4, ![16, 1, 5, 5]⟩ : Shape).Idx → EReal) (b1 : (⟨1, ![16]⟩ : Shape).Idx → EReal)
    (w2 : (⟨4, ![32, 16, 3, 3]⟩ : Shape).Idx → EReal) (b2 : (⟨1, ![32]⟩ : Shape).Idx → EReal) (f : Fin 3200) : EReal :=
  act2 (act1 img w1 b1) w2 b2 ⟨f / 100, by omega⟩ ⟨f / 10 % 10, by omega⟩ ⟨f % 10, by omega⟩

/-- The expert's 128 outputs from the features: two dense layers, each cut at zero. -/
def expert (v : Fin 3200 → EReal) (e1 : (⟨2, ![3200, 256]⟩ : Shape).Idx → EReal) (eb1 : (⟨1, ![256]⟩ : Shape).Idx → EReal)
    (e2 : (⟨2, ![256, 128]⟩ : Shape).Idx → EReal) (eb2 : (⟨1, ![128]⟩ : Shape).Idx → EReal) (n : Fin 128) : EReal :=
  max (dense (fun h => max (dense v e1 eb1 h) 0) e2 eb2 n) 0

/-- The classifier's ten probabilities from the features. -/
def head (v : Fin 3200 → EReal) (e1 : (⟨2, ![3200, 256]⟩ : Shape).Idx → EReal) (eb1 : (⟨1, ![256]⟩ : Shape).Idx → EReal)
    (e2 : (⟨2, ![256, 128]⟩ : Shape).Idx → EReal) (eb2 : (⟨1, ![128]⟩ : Shape).Idx → EReal)
    (sw : (⟨2, ![128, 10]⟩ : Shape).Idx → EReal) (sb : (⟨1, ![10]⟩ : Shape).Idx → EReal) (n : Fin 10) : EReal :=
  softmax (dense (expert v e1 eb1 e2 eb2) sw sb) n

/-! ## Sums against a band of ones -/

/-- A row of a band matrix: the weight `w d` stands at column `s + d`, every other column holds zero. Summed against `x`, only the
    columns of the band count. -/
theorem sum_band {N K : Nat} (x : Fin N → EReal) (w : Fin K → EReal) (s : Nat) (hs : s + K ≤ N) (e : Fin N → Fin K → EReal)
    (he : ∀ c d, e c d = if (c : Nat) = s + d then 1 else 0) :
    ∑ c : Fin N, x c * ∑ d : Fin K, e c d * w d = ∑ d : Fin K, x ⟨s + d, by omega⟩ * w d := by
  have h1 : ∀ c : Fin N, x c * ∑ d : Fin K, e c d * w d = ∑ d : Fin K, if (c : Nat) = s + d then x c * w d else 0 := fun c => by
    by_cases hc : ∃ d : Fin K, (c : Nat) = s + d
    · obtain ⟨d, hd⟩ := hc
      have hne : ∀ d' : Fin K, d' ≠ d → ¬ (c : Nat) = s + d' := fun d' hne h => hne (Fin.ext (by omega))
      rw [Finset.sum_eq_single d (fun d' _ h => by rw [he, if_neg (hne d' h), zero_mul]) (fun h => absurd (Finset.mem_univ d) h),
        Finset.sum_eq_single d (fun d' _ h => if_neg (hne d' h)) (fun h => absurd (Finset.mem_univ d) h), he, if_pos hd, one_mul, if_pos hd]
    · have hn : ∀ d : Fin K, ¬ (c : Nat) = s + d := fun d h => hc ⟨d, h⟩
      rw [Finset.sum_eq_zero (fun d _ => by rw [he, if_neg (hn d), zero_mul]), mul_zero,
        Finset.sum_eq_zero (fun d _ => if_neg (hn d))]
  rw [Finset.sum_congr rfl fun c _ => h1 c, Finset.sum_comm]
  refine Finset.sum_congr rfl fun d _ => ?_
  rw [Finset.sum_eq_single (⟨s + d, by omega⟩ : Fin N) (fun c _ h => if_neg fun hc => h (Fin.ext hc))
    (fun h => absurd (Finset.mem_univ _) h), if_pos rfl]

/-- A sum over `A * B` entries, `B` of them to each of `A` stretches. -/
theorem sum_stretches {M : Type*} [AddCommMonoid M] {L : Nat} (A B : Nat) (hL : L = A * B) (f : Fin L → M) :
    ∑ k : Fin L, f k = ∑ a : Fin A, ∑ b : Fin B, f ⟨a * B + b, by
      subst hL
      calc (a : Nat) * B + b < a * B + B := Nat.add_lt_add_left b.isLt _
        _ = (a + 1) * B := (Nat.succ_mul _ _).symm
        _ ≤ A * B := Nat.mul_le_mul_right _ a.isLt⟩ := by
  subst hL
  rw [← Fintype.sum_prod_type', ← finProdFinEquiv.sum_comp]
  refine Finset.sum_congr rfl fun p _ => congrArg f (Fin.ext ?_)
  show (p.2 : Nat) + B * p.1 = p.1 * B + p.2
  rw [Nat.mul_comm, Nat.add_comm]

end Cert.Spec

end
-- ==== Proof.Finite.lean ====
/- Finite values stay finite through sums, products and cuts; so the features of a finite image under finite filters are finite. -/
module

public import proofs.«01_k».proof.Proof.Spec

@[expose] public section

noncomputable section

namespace Cert.Spec

open Idealize.ShloMosaic

/-- `x` is a real number. -/
def Fine (x : EReal) : Prop := ∃ r : ℝ, x = (r : EReal)

/-- An extended real that is neither infinity is a real number. -/
theorem fine_of_ne {x : EReal} (ht : x ≠ ⊤) (hb : x ≠ ⊥) : Fine x := ⟨x.toReal, (EReal.coe_toReal ht hb).symm⟩

/-- A sum of two real numbers is one. -/
theorem Fine.add {x y : EReal} : Fine x → Fine y → Fine (x + y) := by
  rintro ⟨r, rfl⟩ ⟨s, rfl⟩
  exact ⟨r + s, (EReal.coe_add r s).symm⟩

/-- A product of two real numbers is one. -/
theorem Fine.mul {x y : EReal} : Fine x → Fine y → Fine (x * y) := by
  rintro ⟨r, rfl⟩ ⟨s, rfl⟩
  exact ⟨r * s, (EReal.coe_mul r s).symm⟩

/-- The greater of two real numbers is one. -/
theorem Fine.max {x y : EReal} (hx : Fine x) (hy : Fine y) : Fine (max x y) := by
  rcases max_choice x y with h | h <;> rw [h] <;> assumption

/-- Zero is a real number. -/
theorem Fine.zero : Fine 0 := ⟨0, rfl⟩

/-- A finite sum of real numbers is one. -/
theorem Fine.sum {ι : Type} (s : Finset ι) {f : ι → EReal} (h : ∀ i, Fine (f i)) : Fine (∑ i ∈ s, f i) := by
  classical
  induction s using Finset.induction_on with
  | empty => rw [Finset.sum_empty]; exact Fine.zero
  | insert a s ha ih => rw [Finset.sum_insert ha]; exact (h a).add ih

/-- The features of a finite image under finite filters and biases are finite. -/
theorem feat_fine {img : Fin 28 → Fin 28 → EReal} {w1 : (⟨4, ![16, 1, 5, 5]⟩ : Shape).Idx → EReal} {b1 : (⟨1, ![16]⟩ : Shape).Idx → EReal}
    {w2 : (⟨4, ![32, 16, 3, 3]⟩ : Shape).Idx → EReal} {b2 : (⟨1, ![32]⟩ : Shape).Idx → EReal} (hx : ∀ a a', Fine (img a a')) (hw1 : ∀ i, Fine (w1 i))
    (hb1 : ∀ i, Fine (b1 i)) (hw2 : ∀ i, Fine (w2 i)) (hb2 : ∀ i, Fine (b2 i)) (f : Fin 3200) : Fine (feat img w1 b1 w2 b2 f) := by
  have hc1 : ∀ o i j, Fine (conv1 img w1 o i j) := fun o i j => Fine.sum _ fun di => Fine.sum _ fun dj => (hx _ _).mul (hw1 _)
  have ha1 : ∀ o i j, Fine (act1 img w1 b1 o i j) := fun o i j =>
    (((((hc1 _ _ _).max (hc1 _ _ _)).max ((hc1 _ _ _).max (hc1 _ _ _))).add (hb1 _)).max Fine.zero)
  exact ((Fine.sum _ fun di => Fine.sum _ fun dj => Fine.sum _ fun ch => (ha1 _ _ _).mul (hw2 _)).add (hb2 _)).max Fine.zero

/-- A dense layer of finite operands is finite. -/
theorem dense_fine {K N : Nat} {v : Fin K → EReal} {w : (⟨2, ![K, N]⟩ : Shape).Idx → EReal} {b : (⟨1, ![N]⟩ : Shape).Idx → EReal}
    (hv : ∀ k, Fine (v k)) (hw : ∀ i, Fine (w i)) (hb : ∀ i, Fine (b i)) (n : Fin N) : Fine (dense v w b n) :=
  (Fine.sum _ fun k => (hv k).mul (hw _)).add (hb _)

/-- The softmax over a single finite value is one. -/
theorem lone_softmax {l : EReal} (h : Fine l) : Ideal.div (Ideal.exp (l - l)) (Ideal.exp (l - l)) = 1 := by
  obtain ⟨r, rfl⟩ := h
  have h0 : ((r : EReal) - (r : EReal)) = ((0 : ℝ) : EReal) := by rw [← EReal.coe_sub, sub_self]
  have h1 : Ideal.exp ((0 : ℝ) : EReal) = 1 := by show ((Real.exp 0 : ℝ) : EReal) = 1; rw [Real.exp_zero]; rfl
  rw [h0, h1]
  unfold Ideal.div
  rw [if_neg one_ne_zero, inv_one, mul_one]

end Cert.Spec

end
-- ==== Proof.Pre.lean ====
/- The facts that the precondition's printed function states, and what the precondition says of an array: each entry is finite. -/
module

public import proofs.«01_k».proof.Pre_finite_inputs
public import proofs.«01_k».proof.Proof.Finite
public import Idealize.ShloMosaic.Lib.ReduceAll
public import Idealize.ShloMosaic.PureOps.Ideal

@[expose] public section

noncomputable section

namespace Cert.Pre_finite_inputs

open Idealize.ShloMosaic

/-- Every side condition that the precondition's function states holds. -/
instance facts : Cert.Pre_finite_inputs.Facts := by
  constructor <;> decide

/-- The result of a reduction over every axis has one index. -/
instance one_index : Subsingleton S_.Idx := ⟨fun a b => funext fun i => i.elim0⟩

/-- The word that the absolute values are compared with is the greatest value. -/
theorem greatest : Ideal.ofBits .f32 0x7F800000#32 = ⊤ := by
  simp [Ideal.ofBits, Ideal.ieee]

/-- A value whose absolute value lies under the greatest is a real number. -/
theorem fine_of_word {x : EReal} (h : Ideal.cmp .olt (max x (-x)) (Ideal.ofBits .f32 0x7F800000#32) = 1#1) : Spec.Fine x := by
  rw [greatest] at h
  have hlt : max x (-x) < ⊤ := by
    by_contra hn
    unfold Ideal.cmp at h
    simp [hn] at h
  refine Spec.fine_of_ne ?_ ?_
  · rintro rfl
    exact absurd hlt (not_lt_of_ge (le_max_left _ _))
  · rintro rfl
    exact absurd hlt (not_lt_of_ge (le_max_right _ _))

/-- An array all of whose absolute values lie under the greatest value, so the `and` over its comparisons is one, has real entries. -/
theorem fine_of_reduce {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32))) (constantI S_ 1 1#1) hr hu j = 1#1)
    (i : s.Idx) : Spec.Fine (x i) :=
  fine_of_word (Host.reduce_andi_all _ _ hr hu j h i)

variable {a0 : FVec Ideal S4096x1x28x28 .f32} {a1 : FVec Ideal S16x1x5x5 .f32} {a2 : FVec Ideal S16 .f32} {a3 : FVec Ideal S32x16x3x3 .f32}
  {a4 : FVec Ideal S32 .f32} {a5 : FVec Ideal S3200x1 .f32} {a6 : FVec Ideal S1 .f32} {a7 : FVec Ideal S3200x256 .f32} {a8 : FVec Ideal S256 .f32}
  {a9 : FVec Ideal S256x128 .f32} {a10 : FVec Ideal S128 .f32} {a11 : FVec Ideal S128x10 .f32} {a12 : FVec Ideal S10 .f32}

/-- Under the precondition every entry of the image, of both convolutions' filters and biases, and of the gate's weights and bias is a real number. -/
theorem fine_inputs (h : fn (F := Ideal) a0 a1 a2 a3 a4 a5 a6 a7 a8 a9 a10 a11 a12 = fun _ => 1#1) :
    (∀ i, Spec.Fine (a0 i)) ∧ (∀ i, Spec.Fine (a1 i)) ∧ (∀ i, Spec.Fine (a2 i)) ∧ (∀ i, Spec.Fine (a3 i)) ∧ (∀ i, Spec.Fine (a4 i))
      ∧ (∀ i, Spec.Fine (a5 i)) ∧ (∀ i, Spec.Fine (a6 i)) := by
  have e := congrFun h (fun i => i.elim0)
  dsimp only [fn, fn_part1] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fine_of_reduce a0 _ _ _ _ e0, fine_of_reduce a1 _ _ _ _ e1, fine_of_reduce a2 _ _ _ _ e2, fine_of_reduce a3 _ _ _ _ e3,
    fine_of_reduce a4 _ _ _ _ e4, fine_of_reduce a5 _ _ _ _ e5, fine_of_reduce a6 _ _ _ _ e6⟩

end Cert.Pre_finite_inputs

end
-- ==== Proof.KernelConv.lean ====
/- What one block of the kernel computes up to the second layer: its payloads read at an index. -/
module

public import proofs.«01_k».proof.Proof.Gen.KernelIdeal.Skeleton
public import proofs.«01_k».proof.Proof.Spec

@[expose] public section

set_option maxRecDepth 16384

noncomputable section

namespace Cert.KernelIdeal.Conv

open Idealize.ShloMosaic Idealize.ShloMosaic.TcCoe Idealize.SL.Sem
open Cert.KernelIdeal Cert.KernelIdeal.Gen

/-- One row of the first matrix product: image `r`'s row pair `i` against column `n` of the first band matrix. -/
def row1 (x : FVec Ideal S256x1x28x28 .f32) (w : FVec Ideal S140x384 .f32) (r : Fin 256) (i : Fin 24) (n : Fin 384) : EReal :=
  ∑ di : Fin 5, ∑ c : Fin 28, x (ix4 r 0 ⟨i + di, by omega⟩ c) * w (ix2 ⟨di * 28 + c, by omega⟩ n)

/-- The pooled first layer of the block, in the kernel's own order of taking the four maxima. -/
def pool1 (x : FVec Ideal S256x1x28x28 .f32) (w : FVec Ideal S140x384 .f32) (b : FVec Ideal S192 .f32) (r : Fin 256) (i : Fin 12) (k : Fin 192) : EReal :=
  max (max (max (row1 x w r ⟨2 * i, by omega⟩ ⟨k, by omega⟩) (row1 x w r ⟨2 * i, by omega⟩ ⟨192 + k, by omega⟩))
    (max (row1 x w r ⟨2 * i + 1, by omega⟩ ⟨k, by omega⟩) (row1 x w r ⟨2 * i + 1, by omega⟩ ⟨192 + k, by omega⟩)) + b (ix1 k)) 0

set_option maxHeartbeats 1600000 in
/-- The first twelve rows of the product with the second band matrix: a pooled row of the image times a column of the matrix. -/
theorem pay2_at (x : FVec Ideal S256x1x28x28 .f32) (w : FVec Ideal S140x384 .f32) (b : FVec Ideal S192 .f32) (w2 : FVec Ideal S192x960 .f32)
    (r : Fin 256) (i : Fin 12) (n : Fin 960) :
    k0_pay2 (F := Ideal) x w b w2 (ix3 r ⟨i, by omega⟩ n) = ∑ k : Fin 192, pool1 x w b r i k * w2 (ix2 k n) := by
  unfold k0_pay2
  generalize hm : (matmul (F := Ideal) (φ₁ := .f32) (φ₂ := .f32) dot_S6144x140_S140x384_S6144x384_1_0_0_1_n_n none _ _ _ : FVec Ideal S6144x384 .f32) = v11
  pointwise
  have hI : ((r : Nat) * 16 + i) % 16 = i := by omega
  have hR : ((r : Nat) * 16 + i) / 16 = r := by omega
  simp only [hI, hR]
  refine Finset.sum_congr rfl fun k _ => congrArg (· * w2 (ix2 k n)) ?_
  unfold pool1
  have hrow : ∀ (p : Fin 24) (q : Fin 384), v11 (ix2 ⟨(r : Nat) * 24 + p, by omega⟩ q) = row1 x w r p q := by
    intro p q
    rw [← hm]
    clear hm
    unfold row1
    rw [Fin.sum_univ_five]
    pointwise
    rw [Spec.sum_stretches 5 28 rfl, Fin.sum_univ_five]
    pointwise
    refine congrArg₂ (· + ·) (congrArg₂ (· + ·) (congrArg₂ (· + ·) (congrArg₂ (· + ·) rfl ?_) ?_) ?_) ?_ <;>
      refine Finset.sum_congr rfl fun c _ => congrArg (· * w _) ?_
    all_goals
      split_ifs
      all_goals first
        | (exfalso; omega)
        | exact congrArg x (by congr 2 <;> omega)
  clear hm
  fin_vals i with hi
  all_goals simp only [hi, Nat.reduceSub, Nat.reduceLT, ↓reduceDIte]
  all_goals simp only [← hrow]

end Cert.KernelIdeal.Conv

end
-- ==== Proof.KernelTail.lean ====
/- What one block of the kernel computes from the second layer on: its payloads read at an index. -/
module

public import proofs.«01_k».proof.Proof.Gen.KernelIdeal.Skeleton
public import proofs.«01_k».proof.Proof.Spec

@[expose] public section

set_option maxRecDepth 16384

noncomputable section

namespace Cert.KernelIdeal.Tail

open Idealize.ShloMosaic Idealize.ShloMosaic.TcCoe Idealize.SL.Sem
open Cert.KernelIdeal Cert.KernelIdeal.Gen

/-- The second layer: the three row contributions at their offsets, the bias added, negative values cut to zero. -/
theorem pay4_at (v44 : FVec Ideal S256x16x960 .f32) (v45 : FVec Ideal S256x10x320 .f32) (b : FVec Ideal S320 .f32)
    (r : Fin 256) (i : Fin 10) (n : Fin 320) :
    k0_pay4 (F := Ideal) v44 v45 b (ix3 r i n)
      = max (v45 (ix3 r i n) + v44 (ix3 r ⟨1 + i, by omega⟩ ⟨320 + n, by omega⟩) + v44 (ix3 r ⟨2 + i, by omega⟩ ⟨640 + n, by omega⟩) + b (ix1 n)) 0 := by
  unfold k0_pay4
  pointwise

/-- One row of the second layer against its slab of the expert's first weights. -/
def slab (h : FVec Ideal S256x10x320 .f32) (e : FVec Ideal S1x320x256 .f32) (r : Fin 256) (n : Fin 256) (i : Fin 10) : EReal :=
  ∑ k : Fin 320, h (ix3 r i k) * e (ix3 0 k n)

/-- The expert's first layer before its cut: the ten slabs' products added in turn, the bias last. -/
theorem pay7_at (v44 : FVec Ideal S256x16x960 .f32) (v45 : FVec Ideal S256x10x320 .f32) (b : FVec Ideal S320 .f32)
    (e0 e1 e2 e3 e4 e5 e6 e7 e8 e9 : FVec Ideal S1x320x256 .f32) (eb : FVec Ideal S256 .f32) (r n : Fin 256) :
    k0_pay7 (F := Ideal) (k0_pay4 v44 v45 b) (k0_pay5 v44 v45 b e0 e1 e2 e3) (k0_pay6 v44 v45 b) e4 e5 e6 e7 e8 e9 eb (ix2 r n)
      = slab (k0_pay4 v44 v45 b) e0 r n 0 + slab (k0_pay4 v44 v45 b) e1 r n 1 + slab (k0_pay4 v44 v45 b) e2 r n 2
        + slab (k0_pay4 v44 v45 b) e3 r n 3 + slab (k0_pay4 v44 v45 b) e4 r n 4 + slab (k0_pay4 v44 v45 b) e5 r n 5
        + slab (k0_pay4 v44 v45 b) e6 r n 6 + slab (k0_pay4 v44 v45 b) e7 r n 7 + slab (k0_pay4 v44 v45 b) e8 r n 8
        + slab (k0_pay4 v44 v45 b) e9 r n 9 + eb (ix1 n) := by
  unfold k0_pay7 k0_pay5 k0_pay6 slab
  generalize k0_pay4 (F := Ideal) v44 v45 b = h
  pointwise

/-- The rest of the head: the cut, the second dense layer and its cut, the last dense layer, the softmax. -/
theorem pay1_at (z : FVec Ideal S256x256 .f32) (e2 : FVec Ideal S256x128 .f32) (eb2 : FVec Ideal S128 .f32)
    (sw : FVec Ideal S128x10 .f32) (sb : FVec Ideal S10 .f32) (r : Fin 256) (n : Fin 10) :
    k0_pay1 (F := Ideal) z e2 eb2 sw sb (ix2 r n)
      = Spec.softmax (Spec.dense (fun h => max (Spec.dense (fun k => max (z (ix2 r k)) 0) e2 eb2 h) 0) sw sb) n := by
  unfold k0_pay1 Spec.softmax Spec.dense
  pointwise
  rw [show Ideal.ofBits .f32 0xFF800000#32 = ⊥ by simp [Ideal.ofBits, Ideal.ieee]]

end Cert.KernelIdeal.Tail

end
-- ==== Proof.KernelBlock.lean ====
/- One block of the kernel: given that its operands hold the band matrices and the reordered weights, row `r` of what it stores is
   the classifier's answer for the block's image `r`. -/
module

public import proofs.«01_k».proof.Proof.Gen.KernelIdeal.Frame
public import proofs.«01_k».proof.Proof.KernelConv
public import proofs.«01_k».proof.Proof.KernelTail
public import Idealize.ShloMosaic.Lib.Pipeline.ValueKit

@[expose] public section

set_option maxRecDepth 16384

noncomputable section

namespace Cert.KernelIdeal.Block

open Idealize.ShloMosaic Idealize.ShloMosaic.TcCoe Idealize.SL.Sem
open Cert.KernelIdeal Cert.KernelIdeal.Gen Cert.KernelIdeal.Conv Cert.KernelIdeal.Tail

variable (x : FVec Ideal S256x1x28x28 .f32) (w : FVec Ideal S140x384 .f32) (b : FVec Ideal S192 .f32) (w2 : FVec Ideal S192x960 .f32)
  (b2 : FVec Ideal S320 .f32) (e : FVec Ideal S10x320x256 .f32)
  (c1 : FVec Ideal S16x1x5x5 .f32) (d1 : FVec Ideal S16 .f32) (c2 : FVec Ideal S32x16x3x3 .f32) (d2 : FVec Ideal S32 .f32) (e1 : FVec Ideal S3200x256 .f32)

/-- `w` holds, in each row's stretch of 28, the first layer's filters `c1` at every shift. -/
def Band1 : Prop := ∀ (di : Fin 5) (a : Fin 28) (p : Fin 2) (o : Fin 16) (J : Fin 12),
  w (ix2 ⟨di * 28 + a, by omega⟩ ⟨p * 192 + (o * 12 + J), by omega⟩) = ∑ d : Fin 5, (if (a : Nat) = (2 * J + p) + d then (1 : EReal) else 0) * c1 (ix4 o 0 di d)

/-- `w2` holds, in each channel's stretch of 12, the second layer's filters `c2` at every shift. -/
def Band2 : Prop := ∀ (ch : Fin 16) (a : Fin 12) (di : Fin 3) (o : Fin 32) (J : Fin 10),
  w2 (ix2 ⟨ch * 12 + a, by omega⟩ ⟨di * 320 + (o * 10 + J), by omega⟩) = ∑ d : Fin 3, (if (a : Nat) = J + d then (1 : EReal) else 0) * c2 (ix4 o ch di d)

variable {w b w2 b2 e c1 d1 c2 d2 e1}

/-- A row of the first product is a row of the convolution. -/
theorem row1_eq (h1 : Band1 w c1) (r : Fin 256) (i : Fin 24) (p : Fin 2) (o : Fin 16) (J : Fin 12) :
    row1 x w r i ⟨p * 192 + (o * 12 + J), by omega⟩ = Spec.conv1 (fun a a' => x (ix4 r 0 a a')) c1 o i ⟨2 * J + p, by omega⟩ := by
  unfold row1 Spec.conv1
  refine Finset.sum_congr rfl fun di _ => ?_
  refine (Finset.sum_congr rfl fun a _ => congrArg (x (ix4 r 0 ⟨i + di, by omega⟩ a) * ·) (h1 di a p o J)).trans ?_
  exact Spec.sum_band (fun a => x (ix4 r 0 ⟨i + di, by omega⟩ a)) (fun d => c1 (ix4 o 0 di d)) (2 * J + p) (by omega) _ fun _ _ => rfl

/-- The pooled first layer of the block is the image's first layer. -/
theorem pool1_eq (h1 : Band1 w c1) (hb : ∀ (o : Fin 16) (J : Fin 12), b (ix1 ⟨o * 12 + J, by omega⟩) = d1 (ix1 o))
    (r : Fin 256) (i : Fin 12) (o : Fin 16) (J : Fin 12) :
    pool1 x w b r i ⟨o * 12 + J, by omega⟩ = Spec.act1 (fun a a' => x (ix4 r 0 a a')) c1 d1 o i J := by
  unfold pool1 Spec.act1
  rw [hb]
  have h0 : ∀ i', row1 x w r i' ⟨o * 12 + J, by omega⟩ = Spec.conv1 (fun a a' => x (ix4 r 0 a a')) c1 o i' ⟨2 * J, by omega⟩ := fun i' => by
    refine Eq.trans (congrArg _ (Fin.ext (by simp))) (row1_eq x h1 r i' 0 o J)
  have h1' : ∀ i', row1 x w r i' ⟨192 + (o * 12 + J), by omega⟩ = Spec.conv1 (fun a a' => x (ix4 r 0 a a')) c1 o i' ⟨2 * J + 1, by omega⟩ := fun i' => by
    refine Eq.trans (congrArg _ (Fin.ext (by simp))) (row1_eq x h1 r i' 1 o J)
  rw [h0, h0, h1', h1']

/-- One row's contribution to the second product is one filter row's contribution to the second convolution. -/
theorem row2_eq (h1 : Band1 w c1) (hb : ∀ (o : Fin 16) (J : Fin 12), b (ix1 ⟨o * 12 + J, by omega⟩) = d1 (ix1 o)) (h2 : Band2 w2 c2)
    (r : Fin 256) (i : Fin 12) (di : Fin 3) (o : Fin 32) (J : Fin 10) :
    ∑ k : Fin 192, pool1 x w b r i k * w2 (ix2 k ⟨di * 320 + (o * 10 + J), by omega⟩)
      = ∑ dj : Fin 3, ∑ ch : Fin 16, Spec.act1 (fun a a' => x (ix4 r 0 a a')) c1 d1 ch i ⟨J + dj, by omega⟩ * c2 (ix4 o ch di dj) := by
  rw [Spec.sum_stretches 16 12 rfl, Finset.sum_comm (s := (Finset.univ : Finset (Fin 3)))]
  refine Finset.sum_congr rfl fun ch _ => ?_
  simp only [h2 ch, pool1_eq x h1 hb]
  exact Spec.sum_band (fun a => Spec.act1 (fun a a' => x (ix4 r 0 a a')) c1 d1 ch i a) (fun d => c2 (ix4 o ch di d)) J (by omega) _ fun _ _ => rfl

/-- The block's second layer is the image's second layer. -/
theorem layer2_eq (h1 : Band1 w c1) (hb : ∀ (o : Fin 16) (J : Fin 12), b (ix1 ⟨o * 12 + J, by omega⟩) = d1 (ix1 o)) (h2 : Band2 w2 c2)
    (hb2 : ∀ (o : Fin 32) (J : Fin 10), b2 (ix1 ⟨o * 10 + J, by omega⟩) = d2 (ix1 o)) (r : Fin 256) (i : Fin 10) (o : Fin 32) (J : Fin 10) :
    k0_pay4 (F := Ideal) (k0_pay2 x w b w2) (k0_pay3 x w b w2) b2 (ix3 r i ⟨o * 10 + J, by omega⟩)
      = Spec.act2 (Spec.act1 (fun a a' => x (ix4 r 0 a a')) c1 d1) c2 d2 o i J := by
  rw [pay4_at, hb2]
  have h3 : k0_pay3 (F := Ideal) x w b w2 (ix3 r i ⟨o * 10 + J, by omega⟩) = k0_pay2 (F := Ideal) x w b w2 (ix3 r ⟨i, by omega⟩ ⟨o * 10 + J, by omega⟩) := by
    unfold k0_pay3
    pointwise
  have hrow : ∀ (di : Fin 3) (i' : Fin 16) (n' : Fin 960), (i' : Nat) = i + di → (n' : Nat) = di * 320 + (o * 10 + J) →
      k0_pay2 (F := Ideal) x w b w2 (ix3 r i' n')
        = ∑ dj : Fin 3, ∑ ch : Fin 16, Spec.act1 (fun a a' => x (ix4 r 0 a a')) c1 d1 ch ⟨i + di, by omega⟩ ⟨J + dj, by omega⟩ * c2 (ix4 o ch di dj) := by
    intro di i' n' hi hn
    rw [← row2_eq x h1 hb h2 r ⟨i + di, by omega⟩ di o J, ← pay2_at]
    exact congrArg _ (by congr 2 <;> exact Fin.ext (by simp [hi, hn]))
  unfold Spec.act2 Spec.conv2
  rw [h3, Fin.sum_univ_three, hrow 0 _ _ (by simp) (by simp), hrow 1 _ _ (by simp; omega) (by simp), hrow 2 _ _ (by simp; omega) (by simp)]

/-- The block's first dense layer, before its cut, is the dense layer of the image's features. -/
theorem dense1_eq (h : FVec Ideal S256x10x320 .f32) (v : Fin 3200 → EReal) (r n : Fin 256) (eb : FVec Ideal S256 .f32)
    (hv : ∀ (i : Fin 10) (o : Fin 32) (J : Fin 10), h (ix3 r i ⟨o * 10 + J, by omega⟩) = v ⟨o * 100 + (i * 10 + J), by omega⟩)
    (he : ∀ (i : Fin 10) (o : Fin 32) (J : Fin 10), e (ix3 i ⟨o * 10 + J, by omega⟩ n) = e1 (ix2 ⟨o * 100 + (i * 10 + J), by omega⟩ n)) :
    (∑ i : Fin 10, ∑ k : Fin 320, h (ix3 r i k) * e (ix3 i k n)) + eb (ix1 n) = Spec.dense v e1 eb n := by
  unfold Spec.dense
  refine congrArg (· + eb (ix1 n)) ?_
  rw [Spec.sum_stretches 32 100 rfl]
  simp only [Spec.sum_stretches 32 10 (L := 320) rfl, Spec.sum_stretches 10 10 (L := 100) rfl, hv, he]
  exact Finset.sum_comm

/-- A sum over ten indices written out. -/
theorem sum_ten (f : Fin 10 → EReal) : f 0 + f 1 + f 2 + f 3 + f 4 + f 5 + f 6 + f 7 + f 8 + f 9 = ∑ i, f i := by
  simp only [Fin.sum_univ_castSucc, Finset.univ_eq_empty, Finset.sum_empty, zero_add]
  rfl

/-- Row `r` of the block's result. -/
theorem out_at (h1 : Band1 w c1) (hb : ∀ (o : Fin 16) (J : Fin 12), b (ix1 ⟨o * 12 + J, by omega⟩) = d1 (ix1 o)) (h2 : Band2 w2 c2)
    (hb2 : ∀ (o : Fin 32) (J : Fin 10), b2 (ix1 ⟨o * 10 + J, by omega⟩) = d2 (ix1 o))
    (he : ∀ (i : Fin 10) (o : Fin 32) (J : Fin 10) (n : Fin 256), e (ix3 i ⟨o * 10 + J, by omega⟩ n) = e1 (ix2 ⟨o * 100 + (i * 10 + J), by omega⟩ n))
    (eb1 : FVec Ideal S256 .f32) (e2 : FVec Ideal S256x128 .f32) (eb2 : FVec Ideal S128 .f32) (sw : FVec Ideal S128x10 .f32) (sb : FVec Ideal S10 .f32)
    (r : Fin 256) (n : Fin 10) :
    out0_11 (F := Ideal) x w b w2 b2 e eb1 e2 eb2 sw sb (ix2 r n)
      = Spec.head (Spec.feat (fun a a' => x (ix4 r 0 a a')) c1 d1 c2 d2) e1 eb1 e2 eb2 sw sb n := by
  unfold_out out0_11
  frame_out
  rw [pay1_at]
  unfold Spec.head
  refine congrArg (fun q => Spec.softmax q n) ?_
  refine congrArg (fun q => Spec.dense q sw sb) ?_
  funext h
  refine congrArg (fun q => max q 0) ?_
  refine congrArg (fun q => Spec.dense q e2 eb2 h) ?_
  funext k
  refine congrArg (fun q => max q 0) ?_
  rw [pay7_at, ← dense1_eq (e := e) (k0_pay4 (F := Ideal) (k0_pay2 x w b w2) (k0_pay3 x w b w2) b2) (Spec.feat (fun a a' => x (ix4 r 0 a a')) c1 d1 c2 d2) r k eb1
    (fun i o J => ?_) (fun i o J => he i o J k)]
  · refine congrArg (· + eb1 (ix1 k)) ?_
    rw [← sum_ten]
    generalize k0_pay4 (F := Ideal) (k0_pay2 x w b w2) (k0_pay3 x w b w2) b2 = g
    unfold slab
    iterate 9 refine congrArg₂ (· + ·) ?_ ?_
    all_goals exact Finset.sum_congr rfl fun k' _ => congrArg _ (by pointwise)
  · rw [layer2_eq x h1 hb h2 hb2]
    unfold Spec.feat
    congr 1 <;> (apply Fin.ext; simp only []; omega)

end Cert.KernelIdeal.Block

end
-- ==== Proof.Bands.lean ====
/- What the kernel's host operations lay out for it, read at an index: the two band matrices, the repeated biases and the reordered expert weights. -/
module

public import proofs.«01_k».proof.Proof.Gen.KernelIdeal.Frame
public import proofs.«01_k».proof.Proof.Spec
public import Idealize.ShloMosaic.Lib.StableHlo.ReadAt
public import Idealize.ShloMosaic.Lib.Tactic.WordOmega

@[expose] public section

set_option maxRecDepth 16384

noncomputable section

namespace Cert.KernelIdeal.Bands

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The first layer's bias repeated along a row. -/
theorem b1rep_at (o : Fin 16) (J : Fin 12) :
    (V m c main_v54 : FVec Ideal S192 .f32) (ix1 ⟨o * 12 + J, by omega⟩) = (m ((c.tc : Thread nD τ).loc main_arg2) : FVec Ideal S16 .f32) (ix1 o) := by
  unfold V
  after_reads_at

/-- The second layer's bias repeated along a row. -/
theorem b2rep_at (o : Fin 32) (J : Fin 10) :
    (V m c main_v56 : FVec Ideal S320 .f32) (ix1 ⟨o * 10 + J, by omega⟩) = (m ((c.tc : Thread nD τ).loc main_arg4) : FVec Ideal S32 .f32) (ix1 o) := by
  unfold V
  after_reads_at

/-- The expert's first weights, one slab to each row of the second layer's image. -/
theorem e1p_at (i : Fin 10) (o : Fin 32) (J : Fin 10) (n : Fin 256) :
    (V m c main_v59 : FVec Ideal S10x320x256 .f32) (ix3 i ⟨o * 10 + J, by omega⟩ n)
      = (m ((c.tc : Thread nD τ).loc main_arg7) : FVec Ideal S3200x256 .f32) (ix2 ⟨o * 100 + i * 10 + J, by omega⟩ n) := by
  unfold V
  after_reads_at

/-- A truth value converted to a float: one or zero. -/
theorem bit_float (b : BitVec 1) : FloatOps.uitofp (F := Ideal) .f32 b = if b = 1#1 then 1 else 0 := by
  show (((b.toNat : ℝ)) : EReal) = _
  rcases BitVec.eq_zero_or_eq_one b with rfl | rfl <;> simp

/-- Two words compared for equality. -/
theorem eq_bit (x y : BitVec 32) : IntOp.cmpi .eq x y = 1#1 ↔ x = y := by
  show BitVec.ofBool (x == y) = 1#1 ↔ x = y
  by_cases h : x = y
  · simp [h]
  · rw [beq_false_of_ne h]
    exact ⟨fun h' => absurd h' (by decide), fun h' => absurd h' h⟩

/-- The first band matrix: filter `o`'s row `di`, shifted to start at column `2 * J + p` of the image. -/
theorem w1band_at (di : Fin 5) (x : Fin 28) (p : Fin 2) (o : Fin 16) (J : Fin 12) :
    (V m c main_v23 : FVec Ideal S140x384 .f32) (ix2 ⟨di * 28 + x, by omega⟩ ⟨p * 192 + (o * 12 + J), by omega⟩)
      = ∑ d : Fin 5, (if (x : Nat) = (2 * J + p) + d then (1 : EReal) else 0) * (m ((c.tc : Thread nD τ).loc main_arg1) : FVec Ideal S16x1x5x5 .f32) (ix4 o 0 di d) := by
  unfold V
  after_reads_at
  refine Finset.sum_congr rfl fun d _ => congrArg (· * _) ?_
  rw [bit_float]
  refine if_congr ((eq_bit _ _).trans ?_) rfl rfl
  simp only [IntOp.subi, IntOp.muli]
  constructor <;> intro h <;> bv_omega

/-- The second band matrix: filter `o`'s row `di` of channel `ch`, shifted to start at column `J` of the first layer's row. -/
theorem w2band_at (ch : Fin 16) (x : Fin 12) (di : Fin 3) (o : Fin 32) (J : Fin 10) :
    (V m c main_v52 : FVec Ideal S192x960 .f32) (ix2 ⟨ch * 12 + x, by omega⟩ ⟨di * 320 + (o * 10 + J), by omega⟩)
      = ∑ d : Fin 3, (if (x : Nat) = J + d then (1 : EReal) else 0) * (m ((c.tc : Thread nD τ).loc main_arg3) : FVec Ideal S32x16x3x3 .f32) (ix4 o ch di d) := by
  unfold V
  after_reads_at
  have hterm : ∀ d : Fin 3, FloatOps.uitofp (F := Ideal) .f32 (IntOp.cmpi .eq (BitVec.ofNat 32 d) (IntOp.subi (BitVec.ofNat 32 x) (BitVec.ofNat 32 J)))
      = if (x : Nat) = J + d then (1 : EReal) else 0 := fun d => by
    rw [bit_float]
    refine if_congr ((eq_bit _ _).trans ?_) rfl rfl
    simp only [IntOp.subi]
    constructor <;> intro h <;> bv_omega
  have hJ : (o : Nat) * 10 + J < 320 := by omega
  fin_vals di with hd
  all_goals simp only [hd]
  · rw [dif_pos (by omega)]
    after_reads_at
    obtain rfl : di = 0 := Fin.ext hd
    exact Finset.sum_congr rfl fun d _ => congrArg (· * _) (hterm d)
  · rw [dif_neg (by omega), dif_pos (by omega)]
    after_reads_at
    obtain rfl : di = 1 := Fin.ext hd
    exact Finset.sum_congr rfl fun d _ => congrArg (· * _) (hterm d)
  · rw [dif_neg (by omega), dif_neg (by omega)]
    simp only [show 2 * 320 + ((o : Nat) * 10 + J) - 320 - 320 = o * 10 + J by omega]
    after_reads_at
    obtain rfl : di = 2 := Fin.ext hd
    exact Finset.sum_congr rfl fun d _ => congrArg (· * _) (hterm d)

end Cert.KernelIdeal.Bands

end
-- ==== Proof.KernelValue.lean ====
/- What the kernel's result array holds after the run: at `(b, n)` the classifier's probability `n` for image `b`. -/
module

public import proofs.«01_k».proof.Proof.Gen.KernelIdeal.Value
public import proofs.«01_k».proof.Proof.KernelBlock
public import proofs.«01_k».proof.Proof.Bands
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Bands

variable (m : (ℓ : Loc nD τ sig) → Buf (Elt Ideal) ℓ) (c : Dev nD)

/-- Probability `n` for image `b`, from the argument arrays. -/
def answer (b : Fin 4096) (n : Fin 10) : EReal :=
  Spec.head (Spec.feat (fun a a' => (m ((c.tc : Thread nD τ).loc main_arg0) : FVec Ideal S4096x1x28x28 .f32) (ix4 b 0 a a'))
      (m ((c.tc : Thread nD τ).loc main_arg1)) (m ((c.tc : Thread nD τ).loc main_arg2))
      (m ((c.tc : Thread nD τ).loc main_arg3)) (m ((c.tc : Thread nD τ).loc main_arg4)))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12)) n

/-- The images' and the result's windows move down by one block a step; every other window stays where it is. -/
theorem idx : ∀ t : Fin cfg0.N, win0_0.index t = ![(grid0.coords t 0).val, 0, 0, 0] ∧ win0_1.index t = ![0, 0] ∧ win0_2.index t = ![0] ∧ win0_3.index t = ![0, 0] ∧ win0_4.index t = ![0] ∧ win0_5.index t = ![0, 0, 0] ∧ win0_6.index t = ![0] ∧ win0_7.index t = ![0, 0] ∧ win0_8.index t = ![0] ∧ win0_9.index t = ![0, 0] ∧ win0_10.index t = ![0] ∧ win0_11.index t = ![(grid0.coords t 0).val, 0] :=
  (by decide +kernel : ∀ t : Fin grid0.N, win0_0.index t = ![(grid0.coords t 0).val, 0, 0, 0] ∧ win0_1.index t = ![0, 0] ∧ win0_2.index t = ![0] ∧ win0_3.index t = ![0, 0] ∧ win0_4.index t = ![0] ∧ win0_5.index t = ![0, 0, 0] ∧ win0_6.index t = ![0] ∧ win0_7.index t = ![0, 0] ∧ win0_8.index t = ![0] ∧ win0_9.index t = ![0, 0] ∧ win0_10.index t = ![0] ∧ win0_11.index t = ![(grid0.coords t 0).val, 0])

/-- Operand 1 is whole at every step. -/
theorem whole1 (t : Fin cfg0.N) : (iblk m c 1 t : FVec Ideal S140x384 .f32) = (V m c main_v23 : FVec Ideal S140x384 .f32) := by
  blk_ext! [iblk, idx t]

/-- Operand 2 is whole at every step. -/
theorem whole2 (t : Fin cfg0.N) : (iblk m c 2 t : FVec Ideal S192 .f32) = (V m c main_v54 : FVec Ideal S192 .f32) := by
  blk_ext! [iblk, idx t]

/-- Operand 3 is whole at every step. -/
theorem whole3 (t : Fin cfg0.N) : (iblk m c 3 t : FVec Ideal S192x960 .f32) = (V m c main_v52 : FVec Ideal S192x960 .f32) := by
  blk_ext! [iblk, idx t]

/-- Operand 4 is whole at every step. -/
theorem whole4 (t : Fin cfg0.N) : (iblk m c 4 t : FVec Ideal S320 .f32) = (V m c main_v56 : FVec Ideal S320 .f32) := by
  blk_ext! [iblk, idx t]

/-- Operand 5 is whole at every step. -/
theorem whole5 (t : Fin cfg0.N) : (iblk m c 5 t : FVec Ideal S10x320x256 .f32) = (V m c main_v59 : FVec Ideal S10x320x256 .f32) := by
  blk_ext! [iblk, idx t]

/-- Operand 6 is whole at every step. -/
theorem whole6 (t : Fin cfg0.N) : (iblk m c 6 t : FVec Ideal S256 .f32) = (m ((c.tc : Thread nD τ).loc main_arg8) : FVec Ideal S256 .f32) := by
  blk_ext! [iblk, V, idx t]

/-- Operand 7 is whole at every step. -/
theorem whole7 (t : Fin cfg0.N) : (iblk m c 7 t : FVec Ideal S256x128 .f32) = (m ((c.tc : Thread nD τ).loc main_arg9) : FVec Ideal S256x128 .f32) := by
  blk_ext! [iblk, V, idx t]

/-- Operand 8 is whole at every step. -/
theorem whole8 (t : Fin cfg0.N) : (iblk m c 8 t : FVec Ideal S128 .f32) = (m ((c.tc : Thread nD τ).loc main_arg10) : FVec Ideal S128 .f32) := by
  blk_ext! [iblk, V, idx t]

/-- Operand 9 is whole at every step. -/
theorem whole9 (t : Fin cfg0.N) : (iblk m c 9 t : FVec Ideal S128x10 .f32) = (m ((c.tc : Thread nD τ).loc main_arg11) : FVec Ideal S128x10 .f32) := by
  blk_ext! [iblk, V, idx t]

/-- Operand 10 is whole at every step. -/
theorem whole10 (t : Fin cfg0.N) : (iblk m c 10 t : FVec Ideal S10 .f32) = (m ((c.tc : Thread nD τ).loc main_arg12) : FVec Ideal S10 .f32) := by
  blk_ext! [iblk, V, idx t]

/-- Row `r` of the images' block at step `t`. -/
theorem image_at (t : Fin cfg0.N) (r : Fin 256) (a a' : Fin 28) (b : Fin 4096) (hb : (b : Nat) = (grid0.coords t 0).val * 256 + r) :
    (iblk m c 0 t : FVec Ideal S256x1x28x28 .f32) (ix4 r 0 a a') = (m ((c.tc : Thread nD τ).loc main_arg0) : FVec Ideal S4096x1x28x28 .f32) (ix4 b 0 a a') := by
  blk_ext [iblk, V, idx t]

/-- Row `r` of what step `t` stores is the answer for the image that row stands for. -/
theorem step_at (t : Fin cfg0.N) (r : Fin 256) (n : Fin 10) (b : Fin 4096) (hb : (b : Nat) = (grid0.coords t 0).val * 256 + r) :
    out0_11 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 r n) = answer m c b n := by
  rw [whole1, whole2, whole3, whole4, whole5, whole6, whole7, whole8, whole9, whole10]
  refine (Block.out_at (iblk m c 0 t) (fun di a p o J => w1band_at m c di a p o J) (fun o J => b1rep_at m c o J)
    (fun ch a di o J => w2band_at m c ch a di o J) (fun o J => b2rep_at m c o J)
    (fun i o J n => (e1p_at m c i o J n).trans (congrArg _ (by congr 1; exact Fin.ext (by simp [Nat.add_assoc])))) _ _ _ _ _ r n).trans ?_
  unfold answer
  simp only [image_at m c t r _ _ b hb]

/-- The kernel's result array. -/
theorem array_at : (dats m 0 c).arrAt 11 cfg0.N = fun j : S4096x10.Idx => answer m c (j 0) (j 1) := by
  refine (dats m 0 c).arrAt_eq_of_covers 11 _ (by decide +kernel) fun t hf y => ?_
  blk_simp
  rw [after0_11]
  have hy : (y : S256x10.Idx) = ix2 (y 0) (y 1) := by funext a; fin_cases a <;> rfl
  have h0 : ((((win0_11.blk t).view.emb y) 0 : Fin 4096) : Nat) = (grid0.coords t 0).val * 256 + ((y 0 : Fin 256) : Nat) := by
    blk_simp [idx t]
  have h1 : (((win0_11.blk t).view.emb y) 1 : Fin 10) = (y 1 : Fin 10) := by
    apply Fin.ext
    blk_simp [idx t]
  refine (congrArg _ hy).trans ((step_at m c t (y 0) (y 1) _ h0).trans ?_)
  exact congrArg _ h1.symm

end Cert.KernelIdeal.Value

end
-- ==== Proof.RefConv.lean ====
/- The reference's two convolution layers, read at an index: its shifted products add up to the convolutions, and cutting at zero before
   the pooling gives what cutting after it gives. -/
module

public import proofs.«01_k».proof.Proof.Gen.ReferenceIdeal.Run
public import proofs.«01_k».proof.Proof.Spec
public import Idealize.ShloMosaic.Lib.Pointwise
public import Idealize.ShloMosaic.Lib.Tactic.WordOmega

@[expose] public section

set_option maxRecDepth 16384

noncomputable section

namespace Cert.ReferenceIdeal.Conv

open Idealize.ShloMosaic Idealize.ShloMosaic.TcCoe Idealize.SL.Sem Idealize.ShloMosaic.StableHlo
open Cert.ReferenceIdeal Cert.ReferenceIdeal.Gen Cert.ReferenceIdeal.Value

/-- The coordinates of the four positions of a 2x2 window, in row-major order. -/
theorem window_pos : ∀ n : Fin (⟨4, ![1, 1, 2, 2]⟩ : Shape).numel, ∀ a : Fin 4,
    (((⟨4, ![1, 1, 2, 2]⟩ : Shape).rowMajor.symm n) a).val = (![0, 0, n.val / 2, n.val % 2] : Fin 4 → Nat) a := by
  decide +kernel

/-- The pooled array at an index: the greatest of the start value and the cell's four entries. -/
theorem pool_at (x : FVec Ideal S4096x16x24x24 .f32) (init : FVec Ideal S_ .f32) (h : S4096x16x24x24.ReduceWindows ![1, 1, 2, 2] ![1, 1, 2, 2] ![0, 0, 0, 0] ![0, 0, 0, 0] S4096x16x12x12) (hu : 0 < S_.numel)
    (b : Fin 4096) (o : Fin 16) (i j : Fin 12) :
    (Host.reduceWindow (FloatOps.maximumf (F := Ideal) (φ := .f32)) ![1, 1, 2, 2] ![1, 1, 2, 2] ![0, 0, 0, 0] ![0, 0, 0, 0] x init h hu (ix4 b o i j) : EReal)
      = max (max (max (max (init ix0 : EReal) (x (ix4 b o ⟨2 * i, by omega⟩ ⟨2 * j, by omega⟩))) (x (ix4 b o ⟨2 * i, by omega⟩ ⟨2 * j + 1, by omega⟩)))
          (x (ix4 b o ⟨2 * i + 1, by omega⟩ ⟨2 * j, by omega⟩))) (x (ix4 b o ⟨2 * i + 1, by omega⟩ ⟨2 * j + 1, by omega⟩)) := by
  unfold Host.reduceWindow
  have hl : List.finRange (⟨4, ![1, 1, 2, 2]⟩ : Shape).numel = [⟨0, by decide⟩, ⟨1, by decide⟩, ⟨2, by decide⟩, ⟨3, by decide⟩] := by decide +kernel
  dsimp only
  rw [hl]
  simp only [List.foldl_cons, List.foldl_nil]
  have key : ∀ (p : Fin 4 → Nat) (v : EReal) (i' j' : Fin 24), p 0 = b → p 1 = o → p 2 = i' → p 3 = j' →
      ∀ dec : Decidable (∀ a : Fin 4, (![0, 0, 0, 0] : Fin 4 → Nat) a ≤ p a ∧ p a - (![0, 0, 0, 0] : Fin 4 → Nat) a < S4096x16x24x24.size a),
      @dite EReal _ dec (fun hin => x (fun a => ⟨p a - (![0, 0, 0, 0] : Fin 4 → Nat) a, (hin a).2⟩)) (fun _ => v) = x (ix4 b o i' j') := by
    intro p v i' j' h0 h1 h2 h3 dec
    rw [dif_pos]
    · refine congrArg x (funext fun a => Fin.ext ?_)
      match a with
      | ⟨0, _⟩ => exact h0
      | ⟨1, _⟩ => exact h1
      | ⟨2, _⟩ => exact h2
      | ⟨3, _⟩ => exact h3
    · intro a
      match a with
      | ⟨0, _⟩ => exact ⟨Nat.zero_le _, by show p 0 - 0 < 4096; omega⟩
      | ⟨1, _⟩ => exact ⟨Nat.zero_le _, by show p 1 - 0 < 16; omega⟩
      | ⟨2, _⟩ => exact ⟨Nat.zero_le _, by show p 2 - 0 < 24; omega⟩
      | ⟨3, _⟩ => exact ⟨Nat.zero_le _, by show p 3 - 0 < 24; omega⟩
  have cell := fun (n : Fin (⟨4, ![1, 1, 2, 2]⟩ : Shape).numel) (v : EReal) (i' j' : Fin 24) (hi : (i' : Nat) = 2 * i + n.val / 2) (hj : (j' : Nat) = 2 * j + n.val % 2) =>
    key (fun a => ((ix4 b o i j) (Fin.cast h.1.symm a)).val * (![1, 1, 2, 2] : Fin 4 → Nat) a + ((⟨4, ![1, 1, 2, 2]⟩ : Shape).rowMajor.symm n a).val) v i' j'
      (by show b.val * 1 + _ = b.val; rw [window_pos n 0]; simp) (by show o.val * 1 + _ = o.val; rw [window_pos n 1]; simp)
      (by show i.val * 2 + _ = i'.val; rw [window_pos n 2, hi]; simp; omega) (by show j.val * 2 + _ = j'.val; rw [window_pos n 3, hj]; simp; omega)
  refine congrArg₂ max (congrArg₂ max (congrArg₂ max (congrArg₂ max (congrArg init (funext fun a => a.elim0)) ?_) ?_) ?_) ?_
  · exact cell ⟨0, by decide⟩ _ ⟨2 * i, by omega⟩ ⟨2 * j, by omega⟩ (by simp) (by simp) _
  · exact cell ⟨1, by decide⟩ _ ⟨2 * i, by omega⟩ ⟨2 * j + 1, by omega⟩ (by simp) (by simp) _
  · exact cell ⟨2, by decide⟩ _ ⟨2 * i + 1, by omega⟩ ⟨2 * j, by omega⟩ (by simp) (by simp) _
  · exact cell ⟨3, by decide⟩ _ ⟨2 * i + 1, by omega⟩ ⟨2 * j + 1, by omega⟩ (by simp) (by simp) _

variable (V0 : Valuation τ sig (Elt Ideal)) (x : FVec Ideal S4096x1x28x28 .f32) (w1 : FVec Ideal S16x1x5x5 .f32) (b1 : FVec Ideal S16 .f32)

/-- The first layer's sum without its last product. -/
abbrev sum24 : FVec Ideal S4096x16x24x24 .f32 := res_main_v192 V0

/-- The first layer's sum before its bias: 25 shifted products, the last one apart. -/
theorem sum_at (hx : V0 (Proc.devRef .tc main_arg0) = x) (hw : V0 (Proc.devRef .tc main_arg1) = w1) (b : Fin 4096) (o : Fin 16) (i j : Fin 24) :
    sum24 V0 (ix4 b o i j) + x (ix4 b 0 ⟨i + 4, by omega⟩ ⟨j + 4, by omega⟩) * w1 (ix4 o 0 4 4)
      = Spec.conv1 (fun a a' => x (ix4 b 0 a a')) w1 o i j := by
  unfold sum24 res_main_v192 res_main_v128 res_main_v64
  rw [hx, hw]
  pointwise
  unfold Spec.conv1
  simp only [Fin.sum_univ_five, ← add_assoc]
  iterate 24 refine congrArg₂ (· + ·) ?_ ?_
  all_goals exact congrArg₂ (· * ·) (congrArg₂ (fun p q => x (ix4 b 0 p q)) (Fin.ext (by simp [Nat.add_comm])) (Fin.ext (by simp [Nat.add_comm]))) rfl

/-- Cutting at zero is monotone, so it may be done before the greatest of a cell is taken or after; likewise adding the bias. -/
theorem cut_cell (p q r s b : EReal) :
    max (max (max (max ⊥ (max (p + b) 0)) (max (q + b) 0)) (max (r + b) 0)) (max (s + b) 0) = max (max (max p q) (max r s) + b) 0 := by
  have hb : Monotone fun e : EReal => max (e + b) 0 := fun u v h => max_le_max (add_le_add_left h b) le_rfl
  rw [hb.map_max (a := max p q), hb.map_max (a := p), hb.map_max (a := r), max_eq_right bot_le]
  simp only [max_assoc]

/-- The first layer before its pooling: the last product and the bias added to the sum `g` of the others, negative values cut to zero. -/
def uncut (g : FVec Ideal S4096x16x24x24 .f32) (x : FVec Ideal S4096x1x28x28 .f32) (w1 : FVec Ideal S16x1x5x5 .f32) (b1 : FVec Ideal S16 .f32) : FVec Ideal S4096x16x24x24 .f32 :=
  maximumf (addf (addf g (mulf (broadcastInDim S4096x16x24x24 ![0, 1, 2, 3] bcast_S4096x1x24x24_S4096x16x24x24_0_1_2_3 (extractStridedSlice S4096x1x24x24 ![0, 0, 4, 4] x slices_S4096x1x28x28_S4096x1x24x24_0_0_4_4))
    (broadcastInDim S4096x16x24x24 ![0, 1, 2, 3] bcast_S1x16x1x1_S4096x16x24x24_0_1_2_3 (broadcastInDim S1x16x1x1 ![1] bcast_S16_S1x16x1x1_1 (shapeCast _ (extractStridedSlice S16x1x1x1 ![0, 0, 4, 4] w1 slices_S16x1x5x5_S16x1x1x1_0_0_4_4) shapeCasts_S16x1x1x1_S16)))))
    (broadcastInDim S4096x16x24x24 ![0, 1, 2, 3] bcast_S1x16x1x1_S4096x16x24x24_0_1_2_3 (broadcastInDim S1x16x1x1 ![1] bcast_S16_S1x16x1x1_1 b1))) (broadcastInDim S4096x16x24x24 ![] bcast_S_S4096x16x24x24 (constant S_ .f32 0x00000000#32))

/-- The same read at an index. -/
theorem uncut_at (g : FVec Ideal S4096x16x24x24 .f32) (b : Fin 4096) (o : Fin 16) (i j : Fin 24) :
    uncut g x w1 b1 (ix4 b o i j) = max (g (ix4 b o i j) + x (ix4 b 0 ⟨i + 4, by omega⟩ ⟨j + 4, by omega⟩) * w1 (ix4 o 0 4 4) + b1 (ix1 o)) 0 := by
  pointwise [uncut]
  simp only [Nat.add_comm]

/-- The reference's pooled first layer. -/
abbrev layer1 : FVec Ideal S4096x16x12x12 .f32 := res_main_v206 V0

/-- The reference's pooled first layer is the image's first layer. -/
theorem layer1_at (hx : V0 (Proc.devRef .tc main_arg0) = x) (hw : V0 (Proc.devRef .tc main_arg1) = w1) (hb : V0 (Proc.devRef .tc main_arg2) = b1)
    (b : Fin 4096) (o : Fin 16) (i j : Fin 12) :
    layer1 V0 (ix4 b o i j) = Spec.act1 (fun a a' => x (ix4 b 0 a a')) w1 b1 o i j := by
  unfold layer1 res_main_v206
  rw [hx, hw, hb]
  refine (pool_at (uncut (sum24 V0) x w1 b1) _ _ _ b o i j).trans ?_
  simp only [uncut_at, sum_at V0 x w1 hx hw]
  refine Eq.trans ?_ (cut_cell _ _ _ _ _)
  refine congrArg₂ max (congrArg₂ max (congrArg₂ max (congrArg₂ max ?_ rfl) rfl) rfl) rfl
  pointwise
  simp [Ideal.ofBits, Ideal.ieee]

variable (w2 : FVec Ideal S32x16x3x3 .f32) (b2 : FVec Ideal S32 .f32)

/-- The second layer's sum before its bias. -/
abbrev sum9 : FVec Ideal S4096x32x10x10 .f32 := res_main_v261 V0

/-- The second layer's sum: nine shifted products over the channels are the convolution. -/
theorem sum9_at (h : FVec Ideal S4096x16x12x12 .f32) (hh : layer1 V0 = h) (hw : V0 (Proc.devRef .tc main_arg3) = w2) (b : Fin 4096) (o : Fin 32) (i j : Fin 10) :
    sum9 V0 (ix4 b o i j) = Spec.conv2 (fun ch a a' => h (ix4 b ch a a')) w2 o i j := by
  unfold layer1 at hh
  unfold sum9 res_main_v261
  rw [hh, hw]
  pointwise
  unfold Spec.conv2
  simp only [Fin.sum_univ_three, ← add_assoc]
  iterate 8 refine congrArg₂ (· + ·) ?_ ?_
  all_goals exact Finset.sum_congr rfl fun ch _ => (mul_comm _ _).trans (congrArg₂ (· * ·)
    (congrArg₂ (fun p q => h (ix4 b ch p q)) (Fin.ext (by simp [Nat.add_comm])) (Fin.ext (by simp [Nat.add_comm]))) rfl)

/-- The reference's features. -/
abbrev feats : FVec Ideal S4096x3200 .f32 := res_main_v266 V0

/-- The reference's features are the image's features. -/
theorem feats_at (hx : V0 (Proc.devRef .tc main_arg0) = x) (hw : V0 (Proc.devRef .tc main_arg1) = w1) (hb : V0 (Proc.devRef .tc main_arg2) = b1)
    (hw2 : V0 (Proc.devRef .tc main_arg3) = w2) (hb2 : V0 (Proc.devRef .tc main_arg4) = b2) (b : Fin 4096) (f : Fin 3200) :
    feats V0 (ix2 b f) = Spec.feat (fun a a' => x (ix4 b 0 a a')) w1 b1 w2 b2 f := by
  have hs := fun o i j => sum9_at V0 w2 (layer1 V0) rfl hw2 b o i j
  simp only [layer1_at V0 x w1 b1 hx hw hb] at hs
  unfold feats res_main_v266
  rw [hb2]
  unfold Spec.feat Spec.act2
  rw [← hs]
  unfold sum9
  generalize (res_main_v261 V0 : FVec Ideal S4096x32x10x10 .f32) = g
  pointwise

end Cert.ReferenceIdeal.Conv

end
-- ==== Proof.RefTail.lean ====
/- The reference from its features on: the gate over one expert is one where the logit is finite, and the rest is the classifier's head. -/
module

public import proofs.«01_k».proof.Proof.RefConv
public import proofs.«01_k».proof.Proof.Finite

@[expose] public section

set_option maxRecDepth 16384

noncomputable section

namespace Cert.ReferenceIdeal.Tail

open Idealize.ShloMosaic Idealize.ShloMosaic.TcCoe Idealize.SL.Sem Idealize.ShloMosaic.StableHlo
open Cert.ReferenceIdeal Cert.ReferenceIdeal.Gen Cert.ReferenceIdeal.Value

/-- Of a single entry a row the one greatest is that entry. -/
theorem top_one (x : FVec Ideal S4096x1 .f32) (gt : Ideal .f32 → Ideal .f32 → BitVec 1) (h : S4096x1.Slices (fun _ => 0) S4096x1) :
    (Host.topK S4096x1 1 gt x h).1 = x := by
  funext j
  unfold Host.topK Host.sort2
  dsimp only
  simp only [dif_pos (by decide : 1 < S4096x1.rank)]
  refine congrArg x (funext fun a => Fin.ext ?_)
  match a with
  | ⟨0, _⟩ =>
    show 0 + (j 0).val = (j 0).val
    omega
  | ⟨1, _⟩ =>
    have h1 : ∀ p q : Fin 1, p.val = q.val := by decide
    exact h1 _ _

/-- The word of the least value. -/
theorem least : Ideal.ofBits .f32 0xFF800000#32 = ⊥ := by
  simp [Ideal.ofBits, Ideal.ieee]

/-- The greatest of the entries that a row keeps, over `N` columns, is the greatest over the columns. -/
theorem row_fold {N : Nat} (h' : (⟨2, ![4096, N]⟩ : Shape).ReducesTo [1] S4096) (h : (⟨2, ![4096, N]⟩ : Shape).Reduces [1] S4096)
    (x : (⟨2, ![4096, N]⟩ : Shape).Idx → EReal) (b : Fin 4096) :
    max ⊥ ((Finset.univ.filter fun i => h'.drop i = ix1 b).fold max ⊥ x) = (Finset.univ : Finset (Fin N)).fold max ⊥ (fun k => x (ix2 b k)) := by
  classical
  rw [max_eq_right bot_le, Shape.ReducesTo.drop_eq_drop h' h]
  refine (h.fold_filter_drop_single max ⊥ x (ix1 b)).trans ?_
  refine congrArg (fun g => (Finset.univ : Finset (Fin N)).fold max ⊥ g) (funext fun k => congrArg x (funext fun a => Fin.ext ?_))
  rw [h.lift_val]
  match a with
  | ⟨0, _⟩ => rfl
  | ⟨1, _⟩ => rfl

variable (V0 : Valuation τ sig (Elt Ideal)) (f : FVec Ideal S4096x3200 .f32) (gw : FVec Ideal S3200x1 .f32) (gb : FVec Ideal S1 .f32)
  (e1 : FVec Ideal S3200x256 .f32) (eb1 : FVec Ideal S256 .f32) (e2 : FVec Ideal S256x128 .f32) (eb2 : FVec Ideal S128 .f32)
  (sw : FVec Ideal S128x10 .f32) (sb : FVec Ideal S10 .f32)

/-- The gate's logits. -/
abbrev logits : FVec Ideal S4096x1 .f32 := res_main_v270 V0

/-- An image's logit is a dense layer of its features. -/
theorem logits_at (hf : Conv.feats V0 = f) (hw : V0 (Proc.devRef .tc main_arg5) = gw) (hb : V0 (Proc.devRef .tc main_arg6) = gb) (b : Fin 4096) :
    logits V0 (ix2 b 0) = Spec.dense (fun k => f (ix2 b k)) gw gb 0 := by
  unfold Conv.feats at hf
  unfold logits res_main_v270 Spec.dense
  rw [hf, hw, hb]
  pointwise

/-- The gate before its division. -/
abbrev gateExp : FVec Ideal S4096x1 .f32 := res_main_v276 V0

/-- It is the exponential of the logit less itself. -/
theorem gateExp_at (b : Fin 4096) : gateExp V0 (ix2 b 0) = Ideal.exp (logits V0 (ix2 b 0) - logits V0 (ix2 b 0)) := by
  unfold gateExp res_main_v276 res_main_values
  rw [top_one]
  unfold logits
  obtain ⟨l, hl⟩ : ∃ l : FVec Ideal S4096x1 .f32, res_main_v270 V0 = l := ⟨_, rfl⟩
  rw [hl]
  pointwise
  rw [least]
  have hrow := row_fold (N := 1) reducesTo_S4096x1_S4096_d1 (by decide) l b
  rw [(Finset.univ_unique : (Finset.univ : Finset (Fin 1)) = {default}), Finset.fold_singleton, max_eq_left bot_le, Fin.default_eq_zero] at hrow
  exact congrArg (fun y => Ideal.exp (l (ix2 b 0) - y)) hrow

/-- The last dense layer's results. -/
abbrev scores : FVec Ideal S4096x10 .f32 := res_main_v295 V0

/-- Where the logit is finite the gate is one, and the scores are the expert's through the last dense layer. -/
theorem scores_at (hf : Conv.feats V0 = f) (h1 : V0 (Proc.devRef .tc main_arg7) = e1) (h2 : V0 (Proc.devRef .tc main_arg8) = eb1)
    (h3 : V0 (Proc.devRef .tc main_arg9) = e2) (h4 : V0 (Proc.devRef .tc main_arg10) = eb2) (h5 : V0 (Proc.devRef .tc main_arg11) = sw)
    (h6 : V0 (Proc.devRef .tc main_arg12) = sb) (b : Fin 4096) (hl : Spec.Fine (logits V0 (ix2 b 0))) (n : Fin 10) :
    scores V0 (ix2 b n) = Spec.dense (Spec.expert (fun k => f (ix2 b k)) e1 eb1 e2 eb2) sw sb n := by
  have hg := gateExp_at V0 b
  have hone := Spec.lone_softmax hl
  rw [← hg] at hone
  unfold Conv.feats at hf
  unfold gateExp at hone
  unfold scores res_main_v295 Spec.expert Spec.dense
  rw [hf, h1, h2, h3, h4, h5, h6]
  obtain ⟨g, hg'⟩ : ∃ g : FVec Ideal S4096x1 .f32, res_main_v276 V0 = g := ⟨_, rfl⟩
  rw [hg'] at hone ⊢
  pointwise
  simp only [Finset.univ_unique, Finset.sum_singleton, Fin.default_eq_zero, hone, one_mul]

/-- The reference's result. -/
def result : FVec Ideal S4096x10 .f32 :=
  Host.divf (res_main_v302 V0) (broadcastInDim S4096x10 ![0, 1] bcast_S4096x1_S4096x10_0_1 (broadcastInDim S4096x1 ![0] bcast_S4096_S4096x1_0
    (Host.reduceAdd (res_main_v302 V0) (constant S_ .f32 0x00000000#32) reducesTo_S4096x10_S4096_d1 h_S_)))

/-- It is the softmax of the scores. -/
theorem result_at (b : Fin 4096) (n : Fin 10) : result V0 (ix2 b n) = Spec.softmax (fun k => scores V0 (ix2 b k)) n := by
  unfold result res_main_v302 scores Spec.softmax
  obtain ⟨s, hs⟩ : ∃ s : FVec Ideal S4096x10 .f32, res_main_v295 V0 = s := ⟨_, rfl⟩
  rw [hs]
  pointwise
  rw [least]
  have hrow := row_fold (N := 10) reducesTo_S4096x10_S4096_d1 (by decide) s b
  exact congrArg (fun y => Ideal.div (Ideal.exp (s (ix2 b n) - y)) (∑ k, Ideal.exp (s (ix2 b k) - y))) hrow

end Cert.ReferenceIdeal.Tail

end
-- ==== Proof.lean ====
/- The certificate of the fused two-convolution network with its classifier head: the kernel as printed and its ideal copy run,
   keep their arguments and leave every semaphore at zero, as does the reference; the ideal copy takes the kernel's operations;
   and over the extended reals, on finite inputs, the kernel's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Pre
public import proofs.«01_k».proof.Proof.KernelValue
public import proofs.«01_k».proof.Proof.RefTail
public import Idealize.ShloMosaic.Lib.Claim
public import Idealize.ShloMosaic.Lib.StableHlo.RunHlo
public import Idealize.ShloMosaic.Adequacy
public import Idealize.ShloMosaic.Init

@[expose] public section

noncomputable section

namespace Cert.Proof

open Idealize.ShloMosaic Idealize.SL.Sem Idealize.ShloMosaic.StableHlo Cert.Kernel

/-- The reference runs, keeps its arguments and leaves every semaphore at zero. -/
theorem reference_frame : Cert.quiescent_ReferenceIdeal := by
  intro m g _
  exact (θ_run Cert.ReferenceIdeal.defs _ _).mono
    (fun r h => ⟨fun c => (h c).2, sem_eq_zero_of_no_sems (by decide) r.2⟩) (Cert.ReferenceIdeal.Value.run m g)

/-- On the same finite inputs the reference's result is the array that the kernel leaves. -/
theorem values_agree (V0 : Valuation Cert.ReferenceIdeal.τ Cert.ReferenceIdeal.sig (Elt Ideal))
    (x : FVec Ideal Cert.ReferenceIdeal.S4096x1x28x28 .f32) (w1 : FVec Ideal Cert.ReferenceIdeal.S16x1x5x5 .f32)
    (b1 : FVec Ideal Cert.ReferenceIdeal.S16 .f32) (w2 : FVec Ideal Cert.ReferenceIdeal.S32x16x3x3 .f32)
    (b2 : FVec Ideal Cert.ReferenceIdeal.S32 .f32) (gw : FVec Ideal Cert.ReferenceIdeal.S3200x1 .f32)
    (gb : FVec Ideal Cert.ReferenceIdeal.S1 .f32) (e1 : FVec Ideal Cert.ReferenceIdeal.S3200x256 .f32)
    (eb1 : FVec Ideal Cert.ReferenceIdeal.S256 .f32) (e2 : FVec Ideal Cert.ReferenceIdeal.S256x128 .f32)
    (eb2 : FVec Ideal Cert.ReferenceIdeal.S128 .f32) (sw : FVec Ideal Cert.ReferenceIdeal.S128x10 .f32)
    (sb : FVec Ideal Cert.ReferenceIdeal.S10 .f32)
    (h0 : V0 (Proc.devRef .tc Cert.ReferenceIdeal.main_arg0) = x) (h1 : V0 (Proc.devRef .tc Cert.ReferenceIdeal.main_arg1) = w1)
    (h2 : V0 (Proc.devRef .tc Cert.ReferenceIdeal.main_arg2) = b1) (h3 : V0 (Proc.devRef .tc Cert.ReferenceIdeal.main_arg3) = w2)
    (h4 : V0 (Proc.devRef .tc Cert.ReferenceIdeal.main_arg4) = b2) (h5 : V0 (Proc.devRef .tc Cert.ReferenceIdeal.main_arg5) = gw)
    (h6 : V0 (Proc.devRef .tc Cert.ReferenceIdeal.main_arg6) = gb) (h7 : V0 (Proc.devRef .tc Cert.ReferenceIdeal.main_arg7) = e1)
    (h8 : V0 (Proc.devRef .tc Cert.ReferenceIdeal.main_arg8) = eb1) (h9 : V0 (Proc.devRef .tc Cert.ReferenceIdeal.main_arg9) = e2)
    (h10 : V0 (Proc.devRef .tc Cert.ReferenceIdeal.main_arg10) = eb2) (h11 : V0 (Proc.devRef .tc Cert.ReferenceIdeal.main_arg11) = sw)
    (h12 : V0 (Proc.devRef .tc Cert.ReferenceIdeal.main_arg12) = sb)
    (hpre : Cert.Pre_finite_inputs.fn (F := Ideal) x w1 b1 w2 b2 gw gb e1 eb1 e2 eb2 sw sb = fun _ => 1#1) (b : Fin 4096) (n : Fin 10) :
    Cert.ReferenceIdeal.Tail.result V0 (ix2 b n)
      = Cert.Spec.head (Cert.Spec.feat (fun a a' => x (ix4 b 0 a a')) w1 b1 w2 b2) e1 eb1 e2 eb2 sw sb n := by
  obtain ⟨f0, f1, f2, f3, f4, f5, f6⟩ := Cert.Pre_finite_inputs.fine_inputs hpre
  have hfeat : (fun k => Cert.ReferenceIdeal.Conv.feats V0 (ix2 b k)) = Cert.Spec.feat (fun a a' => x (ix4 b 0 a a')) w1 b1 w2 b2 :=
    funext fun k => Cert.ReferenceIdeal.Conv.feats_at V0 x w1 b1 w2 b2 h0 h1 h2 h3 h4 b k
  have hlogit : Cert.Spec.Fine (Cert.ReferenceIdeal.Tail.logits V0 (ix2 b 0)) := by
    rw [Cert.ReferenceIdeal.Tail.logits_at V0 (Cert.ReferenceIdeal.Conv.feats V0) gw gb rfl h5 h6 b, hfeat]
    exact Cert.Spec.dense_fine (Cert.Spec.feat_fine (fun _ _ => f0 _) f1 f2 f3 f4) f5 f6 0
  rw [Cert.ReferenceIdeal.Tail.result_at]
  have hs : (fun k => Cert.ReferenceIdeal.Tail.scores V0 (ix2 b k))
      = Cert.Spec.dense (Cert.Spec.expert (Cert.Spec.feat (fun a a' => x (ix4 b 0 a a')) w1 b1 w2 b2) e1 eb1 e2 eb2) sw sb := by
    funext k
    rw [Cert.ReferenceIdeal.Tail.scores_at V0 (Cert.ReferenceIdeal.Conv.feats V0) e1 eb1 e2 eb2 sw sb rfl h7 h8 h9 h10 h11 h12 b hlogit k, hfeat]
  rw [hs]
  rfl

/-- Over the extended reals, on finite inputs, the kernel's result is the reference's. -/
theorem algebraic : Cert.algebraic_KernelIdeal_ReferenceIdeal_pre_finite_inputs := by
  pair_intro
  · run_from Cert.KernelIdeal.Value.run_blocks m g
  run_from Cert.ReferenceIdeal.Value.run m' g'
  obtain ⟨h0, h1, h2, h3, h4, h5, h6, h7, h8, h9, h10, h11, h12⟩ := hagree c
  rw [Cert.KernelIdeal.Value.array_at]
  funext j
  refine (congrArg (Cert.ReferenceIdeal.Tail.result (launchContents m' c)) (eq_ix2 j)).trans ?_
  exact values_agree _ _ _ _ _ _ _ _ _ _ _ _ _ _ h0 h1 h2 h3 h4 h5 h6 h7 h8 h9 h10 h11 h12 (hpre c) (j 0) (j 1)

/-- The whole certificate. -/
theorem claim : Cert.Claim :=
  ⟨Cert.Kernel.Gen.facts, Cert.KernelIdeal.Gen.facts, Cert.ReferenceIdeal.Gen.facts, Cert.Pre_finite_inputs.facts,
    fun m ρ _ => Cert.Kernel.Gen.frame m ρ,
    fun m ρ _ => Cert.KernelIdeal.Gen.frame m ρ,
    fun m ρ _ => Cert.KernelIdeal.Gen.frame m ρ,
    reference_frame, fun m g _ => reference_frame m g trivial,
    trivial, algebraic⟩

end Cert.Proof

end
